-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x20000x1 : Shape := ⟨3, ![8, 20000, 1]⟩
abbrev S8x20000x4 : Shape := ⟨3, ![8, 20000, 4]⟩
abbrev S14080 : Shape := ⟨1, ![14080]⟩
abbrev S56320 : Shape := ⟨1, ![56320]⟩
abbrev S112640 : Shape := ⟨1, ![112640]⟩
abbrev S450560 : Shape := ⟨1, ![450560]⟩
abbrev S5072x1 : Shape := ⟨2, ![5072, 1]⟩
abbrev S5072x4 : Shape := ⟨2, ![5072, 4]⟩
abbrev S3520 : Shape := ⟨1, ![3520]⟩
abbrev S_ : Shape := ⟨0, ![]⟩
abbrev S1x5072x1 : Shape := ⟨3, ![1, 5072, 1]⟩
abbrev S1x5072x4 : Shape := ⟨3, ![1, 5072, 4]⟩
abbrev S16 : Shape := ⟨1, ![16]⟩
abbrev S8x14080 : Shape := ⟨2, ![8, 14080]⟩
abbrev S8x14040 : Shape := ⟨2, ![8, 14040]⟩
abbrev S8x14040x1 : Shape := ⟨3, ![8, 14040, 1]⟩
abbrev S8x14080x4 : Shape := ⟨3, ![8, 14080, 4]⟩
abbrev S8x14040x4 : Shape := ⟨3, ![8, 14040, 4]⟩

abbrev nBuf : Table → Nat
  | .hbm => 14
  | .local .scVector .vmem => 7
  | _ => 0

abbrev bufTy : (tb : Table) → Fin (nBuf tb) → BufTy
  | .hbm, ⟨0, _⟩ => ⟨S8x20000x1, .f32⟩
  | .hbm, ⟨1, _⟩ => ⟨S8x20000x4, .f32⟩
  | .hbm, ⟨2, _⟩ => ⟨S14080, .i32⟩
  | .hbm, ⟨3, _⟩ => ⟨S56320, .f32⟩
  | .hbm, ⟨4, _⟩ => ⟨S112640, .f32⟩
  | .hbm, ⟨5, _⟩ => ⟨S450560, .f32⟩
  | .hbm, ⟨6, _⟩ => ⟨S450560, .f32⟩
  | .hbm, ⟨7, _⟩ => ⟨S8x14080, .f32⟩
  | .hbm, ⟨8, _⟩ => ⟨S8x14040, .f32⟩
  | .hbm, ⟨9, _⟩ => ⟨S8x14040x1, .f32⟩
  | .hbm, ⟨10, _⟩ => ⟨S8x14080x4, .f32⟩
  | .hbm, ⟨11, _⟩ => ⟨S8x14040x4, .f32⟩
  | .hbm, ⟨12, _⟩ => ⟨S8x14080x4, .f32⟩
  | .hbm, ⟨13, _⟩ => ⟨S8x14040x4, .f32⟩
  | .local .scVector .vmem, ⟨0, _⟩ => ⟨S5072x1, .f32⟩
  | .local .scVector .vmem, ⟨1, _⟩ => ⟨S5072x4, .f32⟩
  | .local .scVector .vmem, ⟨2, _⟩ => ⟨S3520, .i32⟩
  | .local .scVector .vmem, ⟨3, _⟩ => ⟨S14080, .f32⟩
  | .local .scVector .vmem, ⟨4, _⟩ => ⟨S3520, .f32⟩
  | .local .scVector .vmem, ⟨5, _⟩ => ⟨S14080, .f32⟩
  | .local .scVector .vmem, ⟨6, _⟩ => ⟨S14080, .f32⟩
  | _, _ => ⟨S8x20000x1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_arg0_scv : Ref sig .scVector := ⟨.hbm, 0, rfl⟩
abbrev main_arg1_scv : Ref sig .scVector := ⟨.hbm, 1, rfl⟩
abbrev main_c_scv : Ref sig .scVector := ⟨.hbm, 2, rfl⟩
abbrev main_cst_scv : Ref sig .scVector := ⟨.hbm, 3, rfl⟩
abbrev main_v0_0_scv : Ref sig .scVector := ⟨.hbm, 4, rfl⟩
abbrev main_v0_1_scv : Ref sig .scVector := ⟨.hbm, 5, rfl⟩
abbrev main_v0_2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c3_i32 : BitVec 32 := 3#32
  let v33 : BitVec 1 := Scalar.cmpi .eq v28 c3_i32
  let c14928_i32 : BitVec 32 := 14928#32
  let c2_i32_12 : BitVec 32 := 2#32
  let v31 : BitVec 1 := Scalar.cmpi .eq v28 c2_i32_12
  let c10056_i32 : BitVec 32 := 10056#32
  let c1_i32_10 : BitVec 32 := 1#32
  let v29 : BitVec 1 := Scalar.cmpi .eq v28 c1_i32_10
  let c4992_i32 : BitVec 32 := 4992#32
  let c0_i32_11 : BitVec 32 := 0#32
  let v30 : BitVec 32 := Scalar.select v29 c4992_i32 c0_i32_11
  let v32 : BitVec 32 := Scalar.select v31 c10056_i32 v30
  let v34 : BitVec 32 := Scalar.select v33 c14928_i32 v32
  v34
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c3520_i32 : BitVec 32 := 3520#32
  let v36 : BitVec 32 := Scalar.muli v28 c3520_i32
  v36
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c14080_i32 : BitVec 32 := 14080#32
  let v38 : BitVec 32 := Scalar.muli v28 c14080_i32
  v38
def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c3_i32 : BitVec 32 := 3#32
  let v33 : BitVec 1 := Scalar.cmpi .eq v28 c3_i32
  let c14928_i32 : BitVec 32 := 14928#32
  let c2_i32_12 : BitVec 32 := 2#32
  let v31 : BitVec 1 := Scalar.cmpi .eq v28 c2_i32_12
  let c10056_i32 : BitVec 32 := 10056#32
  let c1_i32_10 : BitVec 32 := 1#32
  let v29 : BitVec 1 := Scalar.cmpi .eq v28 c1_i32_10
  let c4992_i32 : BitVec 32 := 4992#32
  let c0_i32_11 : BitVec 32 := 0#32
  let v30 : BitVec 32 := Scalar.select v29 c4992_i32 c0_i32_11
  let v32 : BitVec 32 := Scalar.select v31 c10056_i32 v30
  let v34 : BitVec 32 := Scalar.select v33 c14928_i32 v32
  let v35 : BitVec 32 := v34
  let c0_i32_22_r0 : BitVec 32 := 0#32
  ![v18.toNat, v35.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c3_i32 : BitVec 32 := 3#32
  let v33 : BitVec 1 := Scalar.cmpi .eq v28 c3_i32
  let c14928_i32 : BitVec 32 := 14928#32
  let c2_i32_12 : BitVec 32 := 2#32
  let v31 : BitVec 1 := Scalar.cmpi .eq v28 c2_i32_12
  let c10056_i32 : BitVec 32 := 10056#32
  let c1_i32_10 : BitVec 32 := 1#32
  let v29 : BitVec 1 := Scalar.cmpi .eq v28 c1_i32_10
  let c4992_i32 : BitVec 32 := 4992#32
  let c0_i32_11 : BitVec 32 := 0#32
  let v30 : BitVec 32 := Scalar.select v29 c4992_i32 c0_i32_11
  let v32 : BitVec 32 := Scalar.select v31 c10056_i32 v30
  let v34 : BitVec 32 := Scalar.select v33 c14928_i32 v32
  let v35 : BitVec 32 := v34
  let c0_i32_22_r1 : BitVec 32 := 0#32
  ![v18.toNat, v35.toNat, 0]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c3520_i32 : BitVec 32 := 3520#32
  let v36 : BitVec 32 := Scalar.muli v28 c3520_i32
  let v37 : BitVec 32 := v36
  ![v37.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c14080_i32 : BitVec 32 := 14080#32
  let v38 : BitVec 32 := Scalar.muli v28 c14080_i32
  let v39 : BitVec 32 := v38
  ![v39.toNat]
@[reducible] def k0_t1_loop : Scf.Loop 32 :=
  let c0_i32_14 : BitVec 32 := 0#32
  let c220_i32 : BitVec 32 := 220#32
  let v40 : BitVec 32 := Scalar.addi c0_i32_14 c220_i32
  let c1_i32_15 : BitVec 32 := 1#32
  ⟨c0_i32_14, v40, c1_i32_15⟩
def k0_off5 (k0_t1 : Fin k0_t1_loop.trips) : Fin 1 → Nat :=
  let c0_i32_14 : BitVec 32 := 0#32
  let c1_i32_15 : BitVec 32 := 1#32
  let arg16 : BitVec 32 := Scf.iv c0_i32_14 c1_i32_15 k0_t1
  let c16_i32 : BitVec 32 := 16#32
  let v50 : BitVec 32 := Scalar.muli arg16 c16_i32
  let v51 : Index := Scalar.indexCast v50
  ![v51.toNat]

def k0_chk1 (v52 : IVec S16 32) (v53 : IVec S16 32) : Prop :=
  (∀ a x, ((![v52, v53] : Fin 2 → IVec S16 32) a x).toNat < S5072x1.size a)
theorem k0_idx1_inb : ∀ (v52 : IVec S16 32) (v53 : IVec S16 32) (k0_hw1 : k0_chk1 v52 v53), ∀ a x, ((![v52, v53] : Fin 2 → IVec S16 32) a x).toNat < S5072x1.size a := fun v52 v53 k0_hw1 => k0_hw1
def k0_off6 (k0_t1 : Fin k0_t1_loop.trips) : Fin 1 → Nat :=
  let c0_i32_14 : BitVec 32 := 0#32
  let c1_i32_15 : BitVec 32 := 1#32
  let arg16 : BitVec 32 := Scf.iv c0_i32_14 c1_i32_15 k0_t1
  let c16_i32 : BitVec 32 := 16#32
  let v50 : BitVec 32 := Scalar.muli arg16 c16_i32
  let v60 : Index := Scalar.indexCast v50
  ![v60.toNat]

def k0_chk2 (v52 : IVec S16 32) (v62 : IVec S16 32) : Prop :=
  (∀ a x, ((![v52, v62] : Fin 2 → IVec S16 32) a x).toNat < S5072x4.size a)
theorem k0_idx2_inb : ∀ (v52 : IVec S16 32) (v62 : IVec S16 32) (k0_hw2 : k0_chk2 v52 v62), ∀ a x, ((![v52, v62] : Fin 2 → IVec S16 32) a x).toNat < S5072x4.size a := fun v52 v62 k0_hw2 => k0_hw2

def k0_chk3 (v65 : IVec S16 32) : Prop :=
  (∀ a x, ((![v65] : Fin 1 → IVec S16 32) a x).toNat < S14080.size a)
theorem k0_idx3_inb : ∀ (v65 : IVec S16 32) (k0_hw3 : k0_chk3 v65), ∀ a x, ((![v65] : Fin 1 → IVec S16 32) a x).toNat < S14080.size a := fun v65 k0_hw3 => k0_hw3

def k0_chk4 (v52 : IVec S16 32) (v66 : IVec S16 32) : Prop :=
  (∀ a x, ((![v52, v66] : Fin 2 → IVec S16 32) a x).toNat < S5072x4.size a)
theorem k0_idx4_inb : ∀ (v52 : IVec S16 32) (v66 : IVec S16 32) (k0_hw4 : k0_chk4 v52 v66), ∀ a x, ((![v52, v66] : Fin 2 → IVec S16 32) a x).toNat < S5072x4.size a := fun v52 v66 k0_hw4 => k0_hw4

def k0_chk5 (v69 : IVec S16 32) : Prop :=
  (∀ a x, ((![v69] : Fin 1 → IVec S16 32) a x).toNat < S14080.size a)
theorem k0_idx5_inb : ∀ (v69 : IVec S16 32) (k0_hw5 : k0_chk5 v69), ∀ a x, ((![v69] : Fin 1 → IVec S16 32) a x).toNat < S14080.size a := fun v69 k0_hw5 => k0_hw5

def k0_chk6 (v52 : IVec S16 32) (v70 : IVec S16 32) : Prop :=
  (∀ a x, ((![v52, v70] : Fin 2 → IVec S16 32) a x).toNat < S5072x4.size a)
theorem k0_idx6_inb : ∀ (v52 : IVec S16 32) (v70 : IVec S16 32) (k0_hw6 : k0_chk6 v52 v70), ∀ a x, ((![v52, v70] : Fin 2 → IVec S16 32) a x).toNat < S5072x4.size a := fun v52 v70 k0_hw6 => k0_hw6

def k0_chk7 (v73 : IVec S16 32) : Prop :=
  (∀ a x, ((![v73] : Fin 1 → IVec S16 32) a x).toNat < S14080.size a)
theorem k0_idx7_inb : ∀ (v73 : IVec S16 32) (k0_hw7 : k0_chk7 v73), ∀ a x, ((![v73] : Fin 1 → IVec S16 32) a x).toNat < S14080.size a := fun v73 k0_hw7 => k0_hw7

def k0_chk8 (v52 : IVec S16 32) (v74 : IVec S16 32) : Prop :=
  (∀ a x, ((![v52, v74] : Fin 2 → IVec S16 32) a x).toNat < S5072x4.size a)
theorem k0_idx8_inb : ∀ (v52 : IVec S16 32) (v74 : IVec S16 32) (k0_hw8 : k0_chk8 v52 v74), ∀ a x, ((![v52, v74] : Fin 2 → IVec S16 32) a x).toNat < S5072x4.size a := fun v52 v74 k0_hw8 => k0_hw8

def k0_chk9 (v77 : IVec S16 32) : Prop :=
  (∀ a x, ((![v77] : Fin 1 → IVec S16 32) a x).toNat < S14080.size a)
theorem k0_idx9_inb : ∀ (v77 : IVec S16 32) (k0_hw9 : k0_chk9 v77), ∀ a x, ((![v77] : Fin 1 → IVec S16 32) a x).toNat < S14080.size a := fun v77 k0_hw9 => k0_hw9
def k0_off7 (k0_t1 : Fin k0_t1_loop.trips) : Fin 1 → Nat :=
  let c0_i32_14 : BitVec 32 := 0#32
  let c1_i32_15 : BitVec 32 := 1#32
  let arg16 : BitVec 32 := Scf.iv c0_i32_14 c1_i32_15 k0_t1
  let c16_i32 : BitVec 32 := 16#32
  let v50 : BitVec 32 := Scalar.muli arg16 c16_i32
  let v78 : Index := Scalar.indexCast v50
  ![v78.toNat]
def k0_off8 (k0_t1 : Fin k0_t1_loop.trips) (c3520_i32_32 : BitVec 32) : Fin 1 → Nat :=
  let c0_i32_14 : BitVec 32 := 0#32
  let c1_i32_15 : BitVec 32 := 1#32
  let arg16 : BitVec 32 := Scf.iv c0_i32_14 c1_i32_15 k0_t1
  let c16_i32 : BitVec 32 := 16#32
  let v50 : BitVec 32 := Scalar.muli arg16 c16_i32
  let v80 : BitVec 32 := Scalar.addi c3520_i32_32 v50
  let v81 : Index := Scalar.indexCast v80
  ![v81.toNat]

def k0_chk10 (v114 : IVec S16 32) : Prop :=
  (∀ a x, ((![v114] : Fin 1 → IVec S16 32) a x).toNat < S14080.size a)
theorem k0_idx10_inb : ∀ (v114 : IVec S16 32) (k0_hw10 : k0_chk10 v114), ∀ a x, ((![v114] : Fin 1 → IVec S16 32) a x).toNat < S14080.size a := fun v114 k0_hw10 => k0_hw10

def k0_chk11 (v120 : IVec S16 32) : Prop :=
  (∀ a x, ((![v120] : Fin 1 → IVec S16 32) a x).toNat < S14080.size a)
theorem k0_idx11_inb : ∀ (v120 : IVec S16 32) (k0_hw11 : k0_chk11 v120), ∀ a x, ((![v120] : Fin 1 → IVec S16 32) a x).toNat < S14080.size a := fun v120 k0_hw11 => k0_hw11

def k0_chk12 (v126 : IVec S16 32) : Prop :=
  (∀ a x, ((![v126] : Fin 1 → IVec S16 32) a x).toNat < S14080.size a)
theorem k0_idx12_inb : ∀ (v126 : IVec S16 32) (k0_hw12 : k0_chk12 v126), ∀ a x, ((![v126] : Fin 1 → IVec S16 32) a x).toNat < S14080.size a := fun v126 k0_hw12 => k0_hw12

def k0_chk13 (v132 : IVec S16 32) : Prop :=
  (∀ a x, ((![v132] : Fin 1 → IVec S16 32) a x).toNat < S14080.size a)
theorem k0_idx13_inb : ∀ (v132 : IVec S16 32) (k0_hw13 : k0_chk13 v132), ∀ a x, ((![v132] : Fin 1 → IVec S16 32) a x).toNat < S14080.size a := fun v132 k0_hw13 => k0_hw13
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c14080_i32_17 : BitVec 32 := 14080#32
  let v41 : BitVec 32 := Scalar.muli v18 c14080_i32_17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c3520_i32_18 : BitVec 32 := 3520#32
  let v42 : BitVec 32 := Scalar.muli v28 c3520_i32_18
  let v43 : BitVec 32 := Scalar.addi v41 v42
  v43
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c14080_i32_19 : BitVec 32 := 14080#32
  let v45 : BitVec 32 := Scalar.muli v18 c14080_i32_19
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c3520_i32_20 : BitVec 32 := 3520#32
  let v46 : BitVec 32 := Scalar.muli v28 c3520_i32_20
  let v47 : BitVec 32 := Scalar.addi v45 v46
  let c4_i32_21 : BitVec 32 := 4#32
  let v48 : BitVec 32 := Scalar.muli v47 c4_i32_21
  v48
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c14080_i32_17 : BitVec 32 := 14080#32
  let v41 : BitVec 32 := Scalar.muli v18 c14080_i32_17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c3520_i32_18 : BitVec 32 := 3520#32
  let v42 : BitVec 32 := Scalar.muli v28 c3520_i32_18
  let v43 : BitVec 32 := Scalar.addi v41 v42
  let v44 : BitVec 32 := v43
  ![v44.toNat]
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c14080_i32_19 : BitVec 32 := 14080#32
  let v45 : BitVec 32 := Scalar.muli v18 c14080_i32_19
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c3520_i32_20 : BitVec 32 := 3520#32
  let v46 : BitVec 32 := Scalar.muli v28 c3520_i32_20
  let v47 : BitVec 32 := Scalar.addi v45 v46
  let c4_i32_21 : BitVec 32 := 4#32
  let v48 : BitVec 32 := Scalar.muli v47 c4_i32_21
  let v49 : BitVec 32 := v48
  ![v49.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x20000x1 : Shape := ⟨3, ![8, 20000, 1]⟩
abbrev S8x20000x4 : Shape := ⟨3, ![8, 20000, 4]⟩
abbrev S14040 : Shape := ⟨1, ![14040]⟩
abbrev S_ : Shape := ⟨0, ![]⟩
abbrev S14040x1 : Shape := ⟨2, ![14040, 1]⟩
abbrev S1 : Shape := ⟨1, ![1]⟩
abbrev S1x1 : Shape := ⟨2, ![1, 1]⟩
abbrev S8x14040x1 : Shape := ⟨3, ![8, 14040, 1]⟩
abbrev S8x14040x4 : Shape := ⟨3, ![8, 14040, 4]⟩
abbrev S8x14040 : Shape := ⟨2, ![8, 14040]⟩
abbrev S1x14040 : Shape := ⟨2, ![1, 14040]⟩

abbrev nBuf : Space → Nat
  | .hbm => 126
  | .vmem => 0
  | .smem => 0
  | _ => 0

abbrev bufTy : (tb : Table) → Fin (tcTables nBuf tb) → BufTy
  | .hbm, ⟨0, _⟩ => ⟨S8x20000x1, .f32⟩
  | .hbm, ⟨1, _⟩ => ⟨S8x20000x4, .f32⟩
  | .hbm, ⟨2, _⟩ => ⟨S14040, .i32⟩
  | .hbm, ⟨3, _⟩ => ⟨S14040, .f32⟩
  | .hbm, ⟨4, _⟩ => ⟨S14040, .f32⟩
  | .hbm, ⟨5, _⟩ => ⟨S14040, .f32⟩
  | .hbm, ⟨6, _⟩ => ⟨S14040, .f32⟩
  | .hbm, ⟨7, _⟩ => ⟨S_, .i32⟩
  | .hbm, ⟨8, _⟩ => ⟨S14040, .i32⟩
  | .hbm, ⟨9, _⟩ => ⟨S14040, .i1⟩
  | .hbm, ⟨10, _⟩ => ⟨S_, .i32⟩
  | .hbm, ⟨11, _⟩ => ⟨S14040, .i32⟩
  | .hbm, ⟨12, _⟩ => ⟨S14040, .i32⟩
  | .hbm, ⟨13, _⟩ => ⟨S14040, .i32⟩
  | .hbm, ⟨14, _⟩ => ⟨S14040x1, .i32⟩
  | .hbm, ⟨15, _⟩ => ⟨S1, .i32⟩
  | .hbm, ⟨16, _⟩ => ⟨S_, .i32⟩
  | .hbm, ⟨17, _⟩ => ⟨S14040x1, .i32⟩
  | .hbm, ⟨18, _⟩ => ⟨S14040x1, .i1⟩
  | .hbm, ⟨19, _⟩ => ⟨S1x1, .i32⟩
  | .hbm, ⟨20, _⟩ => ⟨S14040x1, .i32⟩
  | .hbm, ⟨21, _⟩ => ⟨S14040x1, .i1⟩
  | .hbm, ⟨22, _⟩ => ⟨S14040x1, .i1⟩
  | .hbm, ⟨23, _⟩ => ⟨S_, .i1⟩
  | .hbm, ⟨24, _⟩ => ⟨S14040, .i1⟩
  | .hbm, ⟨25, _⟩ => ⟨S8x14040x1, .f32⟩
  | .hbm, ⟨26, _⟩ => ⟨S8x14040x1, .i1⟩
  | .hbm, ⟨27, _⟩ => ⟨S_, .f32⟩
  | .hbm, ⟨28, _⟩ => ⟨S8x14040x1, .f32⟩
  | .hbm, ⟨29, _⟩ => ⟨S8x14040x1, .f32⟩
  | .hbm, ⟨30, _⟩ => ⟨S_, .i32⟩
  | .hbm, ⟨31, _⟩ => ⟨S14040, .i32⟩
  | .hbm, ⟨32, _⟩ => ⟨S14040, .i1⟩
  | .hbm, ⟨33, _⟩ => ⟨S_, .i32⟩
  | .hbm, ⟨34, _⟩ => ⟨S14040, .i32⟩
  | .hbm, ⟨35, _⟩ => ⟨S14040, .i32⟩
  | .hbm, ⟨36, _⟩ => ⟨S14040, .i32⟩
  | .hbm, ⟨37, _⟩ => ⟨S14040x1, .i32⟩
  | .hbm, ⟨38, _⟩ => ⟨S1, .i32⟩
  | .hbm, ⟨39, _⟩ => ⟨S_, .i32⟩
  | .hbm, ⟨40, _⟩ => ⟨S14040x1, .i32⟩
  | .hbm, ⟨41, _⟩ => ⟨S14040x1, .i1⟩
  | .hbm, ⟨42, _⟩ => ⟨S1x1, .i32⟩
  | .hbm, ⟨43, _⟩ => ⟨S14040x1, .i32⟩
  | .hbm, ⟨44, _⟩ => ⟨S14040x1, .i1⟩
  | .hbm, ⟨45, _⟩ => ⟨S14040x1, .i1⟩
  | .hbm, ⟨46, _⟩ => ⟨S_, .i1⟩
  | .hbm, ⟨47, _⟩ => ⟨S14040, .i1⟩
  | .hbm, ⟨48, _⟩ => ⟨S8x14040x4, .f32⟩
  | .hbm, ⟨49, _⟩ => ⟨S8x14040x4, .i1⟩
  | .hbm, ⟨50, _⟩ => ⟨S_, .f32⟩
  | .hbm, ⟨51, _⟩ => ⟨S8x14040x4, .f32⟩
  | .hbm, ⟨52, _⟩ => ⟨S8x14040x4, .f32⟩
  | .hbm, ⟨53, _⟩ => ⟨S8x14040x1, .f32⟩
  | .hbm, ⟨54, _⟩ => ⟨S8x14040, .f32⟩
  | .hbm, ⟨55, _⟩ => ⟨S8x14040x1, .f32⟩
  | .hbm, ⟨56, _⟩ => ⟨S8x14040, .f32⟩
  | .hbm, ⟨57, _⟩ => ⟨S8x14040x1, .f32⟩
  | .hbm, ⟨58, _⟩ => ⟨S8x14040, .f32⟩
  | .hbm, ⟨59, _⟩ => ⟨S8x14040x1, .f32⟩
  | .hbm, ⟨60, _⟩ => ⟨S8x14040, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8x14040, .f32⟩
  | .hbm, ⟨65, _⟩ => ⟨S8x14040, .f32⟩
  | .hbm, ⟨66, _⟩ => ⟨S_, .f32⟩
  | .hbm, ⟨67, _⟩ => ⟨S8x14040, .f32⟩
  | .hbm, ⟨68, _⟩ => ⟨S8x14040, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S8x14040, .f32⟩
  | .hbm, ⟨73, _⟩ => ⟨S8x14040, .f32⟩
  | .hbm, ⟨74, _⟩ => ⟨S_, .f32⟩
  | .hbm, ⟨75, _⟩ => ⟨S8x14040, .f32⟩
  | .hbm, ⟨76, _⟩ => ⟨S8x14040, .f32⟩
  | .hbm, ⟨77, _⟩ => ⟨S1x14040, .f32⟩
  | .hbm, ⟨78, _⟩ => ⟨S8x14040, .f32⟩
  | .hbm, ⟨79, _⟩ => ⟨S8x14040, .f32⟩
  | .hbm, ⟨80, _⟩ => ⟨S1x14040, .f32⟩
  | .hbm, ⟨81, _⟩ => ⟨S8x14040, .f32⟩
  | .hbm, ⟨82, _⟩ => ⟨S8x14040, .f32⟩
  | .hbm, ⟨83, _⟩ => ⟨S1x14040, .f32⟩
  | .hbm, ⟨84, _⟩ => ⟨S8x14040, .f32⟩
  | .hbm, ⟨85, _⟩ => ⟨S8x14040, .f32⟩
  | .hbm, ⟨86, _⟩ => ⟨S1x14040, .f32⟩
  | .hbm, ⟨87, _⟩ => ⟨S8x14040, .f32⟩
  | .hbm, ⟨88, _⟩ => ⟨S8x14040, .f32⟩
  | .hbm, ⟨89, _⟩ => ⟨S8x14040, .f32⟩
  | .hbm, ⟨90, _⟩ => ⟨S1x14040, .f32⟩
  | .hbm, ⟨91, _⟩ => ⟨S8x14040, .f32⟩
  | .hbm, ⟨92, _⟩ => ⟨S8x14040, .f32⟩
  | .hbm, ⟨93, _⟩ => ⟨S8x14040, .f32⟩
  | .hbm, ⟨94, _⟩ => ⟨S1x14040, .f32⟩
  | .hbm, ⟨95, _⟩ => ⟨S8x14040, .f32⟩
  | .hbm, ⟨96, _⟩ => ⟨S8x14040, .f32⟩
  | .hbm, ⟨97, _⟩ => ⟨S_, .f32⟩
  | .hbm, ⟨98, _⟩ => ⟨S8x14040, .f32⟩
  | .hbm, ⟨99, _⟩ => ⟨S8x14040, .f32⟩
  | .hbm, ⟨100, _⟩ => ⟨S8x14040, .f32⟩
  | .hbm, ⟨101, _⟩ => ⟨S_, .f32⟩
  | .hbm, ⟨102, _⟩ => ⟨S8x14040, .f32⟩
  | .hbm, ⟨103, _⟩ => ⟨S8x14040, .f32⟩
  | .hbm, ⟨104, _⟩ => ⟨S8x14040, .f32⟩
  | .hbm, ⟨105, _⟩ => ⟨S_, .f32⟩
  | .hbm, ⟨106, _⟩ => ⟨S8x14040, .f32⟩
  | .hbm, ⟨107, _⟩ => ⟨S8x14040, .f32⟩
  | .hbm, ⟨108, _⟩ => ⟨S8x14040, .f32⟩
  | .hbm, ⟨109, _⟩ => ⟨S_, .f32⟩
  | .hbm, ⟨110, _⟩ => ⟨S8x14040, .f32⟩
  | .hbm, ⟨111, _⟩ => ⟨S8x14040, .f32⟩
  | .hbm, ⟨112, _⟩ => ⟨S8x14040, .f32⟩
  | .hbm, ⟨113, _⟩ => ⟨S8x14040x1, .f32⟩
  | .hbm, ⟨114, _⟩ => ⟨S8x14040x1, .f32⟩
  | .hbm, ⟨115, _⟩ => ⟨S8x14040x1, .f32⟩
  | .hbm, ⟨116, _⟩ => ⟨S8x14040x1, .f32⟩
  | .hbm, ⟨117, _⟩ => ⟨S8x14040x4, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S8x14040x4, .f32⟩
  | .hbm, ⟨122, _⟩ => ⟨S8x14040x4, .f32⟩
  | .hbm, ⟨123, _⟩ => ⟨S_, .f32⟩
  | .hbm, ⟨124, _⟩ => ⟨S8x14040x4, .f32⟩
  | .hbm, ⟨125, _⟩ => ⟨S8x14040x4, .f32⟩
  | _, _ => ⟨S8x20000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_cst_3 : Ref sig .tc := ⟨.hbm, 61, rfl⟩
abbrev main_cst_4 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v10 : Ref sig .tc := ⟨.hbm, 68, rfl⟩
abbrev main_cst_5 : Ref sig .tc := ⟨.hbm, 69, rfl⟩
abbrev main_cst_6 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_cst_7 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_cst_8 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_cst_9 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_cst_10 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_cst_11 : Ref sig .tc := ⟨.hbm, 118, rfl⟩
abbrev main_cst_12 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_v49 : Ref sig .tc := ⟨.hbm, 125, rfl⟩

abbrev nD : Nat := 1
abbrev τ : Topo := Topo.v7x

variable {F : FTy → Type} [FloatOps F]
-- ==== Proof.KernelIdealVals.lean ====
/-
  What one tile of the kernel computes, as plain functions of the four arrays it copies in, and the two facts about
  a trip of its loop that carry those functions: sixteen words read through a list of row numbers, and four indexed
  stores of sixteen lanes each, which together fill sixty-four consecutive places.
-/
module

public import proofs.«01_k».proof.Defs
public import proofs.«01_k».proof.Proof.Gen.KernelIdeal
public import proofs.«01_k».proof.Proof.Gen.KernelIdeal.Skeleton

@[expose] public section

noncomputable section

namespace Cert.Roi.KernelIdeal

open Cert.KernelIdeal Cert.KernelIdeal.Gen
open Idealize.ShloMosaic

variable {F : FTy → Type}

/-! ## Places of the tile's arrays, by number (numbers past the end wrap, so that no bound is carried) -/

/-- Place `j` of the 3520 row numbers (and of the 3520 scores). -/
def at3520 (j : Nat) : S3520.Idx := fun | 0 => ⟨j % 3520, Nat.mod_lt _ (by decide)⟩
/-- Place `j` of the 14080 numbers. -/
def at14080 (j : Nat) : S14080.Idx := fun | 0 => ⟨j % 14080, Nat.mod_lt _ (by decide)⟩
/-- Row `r` of the copied scores. -/
def atRow1 (r : Nat) : S5072x1.Idx := fun | 0 => ⟨r % 5072, Nat.mod_lt _ (by decide)⟩ | 1 => ⟨0, by decide⟩
/-- Row `r`, column `c` of the copied regressions. -/
def atRow4 (r c : Nat) : S5072x4.Idx := fun | 0 => ⟨r % 5072, Nat.mod_lt _ (by decide)⟩ | 1 => ⟨c % 4, Nat.mod_lt _ (by decide)⟩
/-- Lane `l` of a vector of sixteen. -/
def lane (l : Nat) : S16.Idx := fun | 0 => ⟨l % 16, Nat.mod_lt _ (by decide)⟩

theorem at3520_val (j : Nat) (h : j < 3520) : (at3520 j 0).val = j := Nat.mod_eq_of_lt h
theorem at14080_val (j : Nat) (h : j < 14080) : (at14080 j 0).val = j := Nat.mod_eq_of_lt h
theorem at3520_self (y : S3520.Idx) : at3520 (y 0).val = y := by
  funext a; match a with | 0 => exact Fin.ext (Nat.mod_eq_of_lt (y 0).isLt)
theorem at14080_self (y : S14080.Idx) : at14080 (y 0).val = y := by
  funext a; match a with | 0 => exact Fin.ext (Nat.mod_eq_of_lt (y 0).isLt)
theorem lane_self (x : S16.Idx) : lane (x 0).val = x := by
  funext a; match a with | 0 => exact Fin.ext (Nat.mod_eq_of_lt (x 0).isLt)

/-! ## The box of one anchor -/

section Box

variable [FloatOps F]

/-- Half the box's extent along one axis: half the anchor's, times the exponential of the clipped regression. -/
def half (w d : F .f32) : F .f32 :=
  FloatOps.mulf (FloatOps.mulf (Scalar.ofBits .f32 0x3F000000#32) w)
    (FloatOps.exp (FloatOps.minimumf (Scalar.ofBits .f32 0x40845349#32) (FloatOps.maximumf (Scalar.ofBits .f32 0xC0845349#32) d)))
/-- The box's centre along one axis. -/
def ctr (a d w : F .f32) : F .f32 := FloatOps.addf a (FloatOps.mulf d w)
/-- A corner clipped to the picture with its margin. -/
def clip (x : F .f32) : F .f32 :=
  FloatOps.minimumf (Scalar.ofBits .f32 0x3F8CCCCD#32) (FloatOps.maximumf (Scalar.ofBits .f32 0xBDCCCCCD#32) x)

/-- Coordinate `c` of the box, from the four regressions and the anchor's width, height and centre. -/
def box (d0 d1 d2 d3 w h a b : F .f32) : Nat → F .f32
  | 0 => clip (FloatOps.subf (ctr a d0 w) (half w d2))
  | 1 => clip (FloatOps.subf (ctr b d1 h) (half h d3))
  | 2 => clip (FloatOps.addf (ctr a d0 w) (half w d2))
  | _ => clip (FloatOps.addf (ctr b d1 h) (half h d3))

end Box

/-! ## The tile's three results -/

/-- The gathered scores. -/
def clsT (A : Vec F S5072x1 .f32) (I : Vec F S3520 .i32) : Vec F S3520 .f32 := fun y => A (atRow1 (I y).toNat)
/-- The gathered regressions, four in a row. -/
def delT (B : Vec F S5072x4 .f32) (I : Vec F S3520 .i32) : Vec F S14080 .f32 :=
  fun y => B (atRow4 (I (at3520 ((y 0).val / 4))).toNat ((y 0).val % 4))
/-- The boxes, four coordinates in a row; `C` is widths, heights, centres' first coordinates, their second ones. -/
def roiT [FloatOps F] (B : Vec F S5072x4 .f32) (I : Vec F S3520 .i32) (C : Vec F S14080 .f32) : Vec F S14080 .f32 :=
  fun y =>
    let j := (y 0).val / 4
    let r := (I (at3520 j)).toNat
    box (B (atRow4 r 0)) (B (atRow4 r 1)) (B (atRow4 r 2)) (B (atRow4 r 3))
      (C (at14080 j)) (C (at14080 (3520 + j))) (C (at14080 (7040 + j))) (C (at14080 (10560 + j))) ((y 0).val % 4)

/-! ## The indexed loads -/

theorem loadIdx_row1 (A : Vec F S5072x1 .f32) (v : IVec S16 32) (h : ∀ a x, ((![v, broadcast S16 0#32] : Fin 2 → IVec S16 32) a x).toNat < S5072x1.size a) (x : S16.Idx) :
    (loadIdx (t := S16) A (![v, broadcast S16 0#32] : Fin 2 → IVec S16 32) h : Vec F S16 .f32) x = A (atRow1 (v x).toNat) := by
  unfold loadIdx
  congr 1
  funext a
  match a with
  | 0 => exact Fin.ext (Nat.mod_eq_of_lt (h 0 x)).symm
  | 1 => rfl

theorem loadIdx_row4 (B : Vec F S5072x4 .f32) (v : IVec S16 32) (b : BitVec 32) (h : ∀ a x, ((![v, broadcast S16 b] : Fin 2 → IVec S16 32) a x).toNat < S5072x4.size a) (x : S16.Idx) :
    (loadIdx (t := S16) B (![v, broadcast S16 b] : Fin 2 → IVec S16 32) h : Vec F S16 .f32) x = B (atRow4 (v x).toNat b.toNat) := by
  unfold loadIdx
  congr 1
  funext a
  match a with
  | 0 => exact Fin.ext (Nat.mod_eq_of_lt (h 0 x)).symm
  | 1 => exact Fin.ext (Nat.mod_eq_of_lt (h 1 x)).symm

/-! ## The indexed stores -/

variable [FloatOps F]

/-- The lanes of a list written in turn over `f`, read at `y`: where no lane of the list names `y`, `f`'s value. -/
theorem fold_miss {α : Type} (p : Fin 16 → S14080.Idx → Prop) [∀ k y, Decidable (p k y)] (v : Fin 16 → α) (y : S14080.Idx) :
    ∀ (l : List (Fin 16)) (f : S14080.Idx → α), (∀ k ∈ l, ¬ p k y) → (l.foldl (fun g k j => if p k j then v k else g j) f) y = f y
  | [], _, _ => rfl
  | k :: l, f, h => by
    rw [List.foldl_cons, fold_miss p v y l _ fun k' hk' => h k' (List.mem_cons_of_mem _ hk')]
    exact if_neg (h k List.mem_cons_self)

/-- … and where exactly one does, that lane's value. -/
theorem fold_hit {α : Type} (p : Fin 16 → S14080.Idx → Prop) [∀ k y, Decidable (p k y)] (v : Fin 16 → α) (y : S14080.Idx) (k₀ : Fin 16) (hp : p k₀ y)
    (hu : ∀ k, p k y → k = k₀) :
    ∀ (l : List (Fin 16)) (f : S14080.Idx → α), k₀ ∈ l → (l.foldl (fun g k j => if p k j then v k else g j) f) y = v k₀
  | [], _, h => absurd h List.not_mem_nil
  | k :: l, f, h => by
    rw [List.foldl_cons]
    by_cases hl : k₀ ∈ l
    · exact fold_hit p v y k₀ hp hu l _ hl
    · have hk : k = k₀ := by
        rcases List.mem_cons.mp h with e | e
        · exact e.symm
        · exact absurd e hl
      rw [fold_miss p v y l _ fun k' hk' e => hl (hu k' e ▸ hk'), hk]
      exact if_pos hp

/-- A store of sixteen lanes at places `64 k + 4 l + c` (`l` the lane): those places hold the lanes' values, the rest is kept. -/
theorem storeIdx_apply (f : Vec F S14080 .f32) (iv : IVec S16 32) (v : Vec F S16 .f32) (h : ∀ a x, ((![iv] : Fin 1 → IVec S16 32) a x).toNat < S14080.size a)
    (k c : Nat) (hc : c < 4) (hiv : ∀ x, (iv x).toNat = 64 * k + 4 * (x 0).val + c) (y : S14080.Idx) :
    (storeIdx f (![iv] : Fin 1 → IVec S16 32) v (fun _ => 1#1) false h : Vec F S14080 .f32) y
      = if (y 0).val / 64 = k ∧ (y 0).val % 4 = c then v (lane ((y 0).val % 64 / 4)) else f y := by
  have hl : ∀ l : Fin 16, lane l.val = (Shape.ofLane (d := ![16]) l : S16.Idx) := fun l => by
    funext a; match a with | 0 => exact Fin.ext (Nat.mod_eq_of_lt l.isLt)
  have hval : ∀ l : Fin 16, ((Shape.ofLane (d := ![16]) l : S16.Idx) 0).val = l.val := fun _ => rfl
  have e : (storeIdx f (![iv] : Fin 1 → IVec S16 32) v (fun _ => 1#1) false h : Vec F S14080 .f32)
      = (List.finRange 16).foldl (fun (g : Vec F S14080 .f32) (l : Fin 16) (j : S14080.Idx) =>
          if (j 0).val = (iv (Shape.ofLane (d := ![16]) l)).toNat then v (Shape.ofLane (d := ![16]) l) else g j) f := by
    unfold storeIdx
    congr 1
    funext g l
    simp only [↓reduceIte]
    funext j
    congr 1
    exact propext ⟨fun H => H 0, fun H a => by match a with | 0 => exact H⟩
  rw [e]
  by_cases hy : (y 0).val / 64 = k ∧ (y 0).val % 4 = c
  · rw [if_pos hy]
    have hlt : (y 0).val % 64 / 4 < 16 := by omega
    have := fold_hit (fun (l : Fin 16) (j : S14080.Idx) => (j 0).val = (iv (Shape.ofLane (d := ![16]) l)).toNat)
      (fun l => v (Shape.ofLane (d := ![16]) l)) y ⟨(y 0).val % 64 / 4, hlt⟩
      (by rw [hiv, hval]; show (y 0).val = 64 * k + 4 * ((y 0).val % 64 / 4) + c; omega)
      (fun l hl' => by rw [hiv, hval] at hl'; exact Fin.ext (by show l.val = (y 0).val % 64 / 4; omega))
      (List.finRange 16) f (List.mem_finRange _)
    rw [this, ← hl]
  · rw [if_neg hy]
    refine fold_miss (fun (l : Fin 16) (j : S14080.Idx) => (j 0).val = (iv (Shape.ofLane (d := ![16]) l)).toNat)
      (fun l => v (Shape.ofLane (d := ![16]) l)) y (List.finRange 16) f fun l _ hl' => hy ?_
    rw [hiv, hval] at hl'
    have := l.isLt
    omega

/-- Four such stores, one per residue: if each lane's value is what `G` has at its place, the sixty-four places of
    trip `k` now hold `G`, and the rest is kept. -/
theorem store4 (G f f0 f1 f2 f3 : Vec F S14080 .f32) (i0 i1 i2 i3 : IVec S16 32) (v0 v1 v2 v3 : Vec F S16 .f32)
    (h0 h1 h2 h3) (k : Nat) (hk : k < 220)
    (hi0 : ∀ x, (i0 x).toNat = 64 * k + 4 * (x 0).val + 0) (hi1 : ∀ x, (i1 x).toNat = 64 * k + 4 * (x 0).val + 1)
    (hi2 : ∀ x, (i2 x).toNat = 64 * k + 4 * (x 0).val + 2) (hi3 : ∀ x, (i3 x).toNat = 64 * k + 4 * (x 0).val + 3)
    (hv0 : ∀ x : S16.Idx, v0 x = G (at14080 (64 * k + 4 * (x 0).val + 0))) (hv1 : ∀ x : S16.Idx, v1 x = G (at14080 (64 * k + 4 * (x 0).val + 1)))
    (hv2 : ∀ x : S16.Idx, v2 x = G (at14080 (64 * k + 4 * (x 0).val + 2))) (hv3 : ∀ x : S16.Idx, v3 x = G (at14080 (64 * k + 4 * (x 0).val + 3)))
    (e0 : f0 = storeIdx f (![i0] : Fin 1 → IVec S16 32) v0 (fun _ => 1#1) false h0)
    (e1 : f1 = storeIdx f0 (![i1] : Fin 1 → IVec S16 32) v1 (fun _ => 1#1) false h1)
    (e2 : f2 = storeIdx f1 (![i2] : Fin 1 → IVec S16 32) v2 (fun _ => 1#1) false h2)
    (e3 : f3 = storeIdx f2 (![i3] : Fin 1 → IVec S16 32) v3 (fun _ => 1#1) false h3)
    (hf : ∀ y : S14080.Idx, (y 0).val < 64 * k → f y = G y) (y : S14080.Idx) (hy : (y 0).val < 64 * (k + 1)) : f3 y = G y := by
  have key : ∀ c, (y 0).val / 64 = k → (y 0).val % 4 = c → at14080 (64 * k + 4 * (lane ((y 0).val % 64 / 4) 0).val + c) = y := by
    intro c h1 h2
    have : (lane ((y 0).val % 64 / 4) 0).val = (y 0).val % 64 / 4 := Nat.mod_eq_of_lt (by omega)
    rw [this]
    conv_rhs => rw [← at14080_self y]
    congr 1; omega
  rw [e3, storeIdx_apply f2 i3 v3 h3 k 3 (by decide) hi3]
  split
  · rename_i hh; rw [hv3, key 3 hh.1 hh.2]
  rename_i n3
  rw [e2, storeIdx_apply f1 i2 v2 h2 k 2 (by decide) hi2]
  split
  · rename_i hh; rw [hv2, key 2 hh.1 hh.2]
  rename_i n2
  rw [e1, storeIdx_apply f0 i1 v1 h1 k 1 (by decide) hi1]
  split
  · rename_i hh; rw [hv1, key 1 hh.1 hh.2]
  rename_i n1
  rw [e0, storeIdx_apply f i0 v0 h0 k 0 (by decide) hi0]
  split
  · rename_i hh; rw [hv0, key 0 hh.1 hh.2]
  rename_i n0
  exact hf y (by omega)

/-! ## The indices of the indexed stores -/

theorem pay1_toNat : ∀ (t : Fin k0_t1_loop.trips) (x : S16.Idx), (k0_pay1 0#32 1#32 t x).toNat = 64 * t.val + 4 * (x 0).val := by
  have h : ∀ (t : Fin k0_t1_loop.trips) (l : Fin 16), (k0_pay1 0#32 1#32 t (lane l.val)).toNat = 64 * t.val + 4 * l.val := by
    decide +kernel
  intro t x
  have := h t (x 0)
  rwa [lane_self] at this

theorem trips_lt (t : Fin k0_t1_loop.trips) : t.val < 220 := lt_of_lt_of_le t.isLt k0_t1_abs.2.1

theorem pay_add (t : Fin k0_t1_loop.trips) (b : BitVec 32) (hb : b.toNat < 4) (x : S16.Idx) :
    (addi (k0_pay1 0#32 1#32 t) (broadcast S16 b) x).toNat = 64 * t.val + 4 * (x 0).val + b.toNat := by
  show (k0_pay1 0#32 1#32 t x + b).toNat = _
  have h1 := pay1_toNat t x
  have h2 := trips_lt t
  have h3 : (x 0).val < 16 := (x 0).isLt
  rw [BitVec.toNat_add, h1, Nat.mod_eq_of_lt (by omega)]

theorem chk_add (t : Fin k0_t1_loop.trips) (b : BitVec 32) (hb : b.toNat < 4) :
    ∀ a x, ((![addi (k0_pay1 0#32 1#32 t) (broadcast S16 b)] : Fin 1 → IVec S16 32) a x).toNat < S14080.size a := by
  intro a x
  match a with
  | 0 =>
    show (addi (k0_pay1 0#32 1#32 t) (broadcast S16 b) x).toNat < 14080
    have h2 := trips_lt t
    have h3 : (x 0).val < 16 := (x 0).isLt
    rw [pay_add t b hb]; omega

end Cert.Roi.KernelIdeal
-- ==== Proof.KernelIdealSlices.lean ====
/-
  Which parts of the program's arrays the tile of SparseCore `c`, subcore `s` works on: tile number `2 s + c`, image
  `⌊tile / 4⌋`, quarter `tile mod 4` of the anchors; the slices the program takes, in closed form.
-/
module

public import proofs.«01_k».proof.Proof.KernelIdealVals

@[expose] public section

noncomputable section

namespace Cert.Roi.KernelIdeal

open Cert.KernelIdeal Cert.KernelIdeal.Gen
open Idealize.ShloMosaic

variable {F : FTy → Type}

/-- The number of the tile at the grid's coordinates. -/
def wid (L : grid0.Coords) : Nat := 2 * (L 1).val + (L 0).val

theorem wid_lt (L : grid0.Coords) : wid L < 32 := by
  have h0 : (L 0).val < 2 := (L 0).isLt
  have h1 : (L 1).val < 16 := (L 1).isLt
  unfold wid; omega

/-- The first row of the images' scores that quarter `q` of the anchors needs. -/
def lo : Nat → Nat | 0 => 0 | 1 => 4992 | 2 => 10056 | _ => 14928

theorem off1_eq : ∀ L : grid0.Coords, k0_off1 L = ![wid L / 4, lo (wid L % 4), 0] := by decide +kernel
theorem off2_eq : ∀ L : grid0.Coords, k0_off2 L = ![wid L / 4, lo (wid L % 4), 0] := by decide +kernel
theorem off3_eq : ∀ L : grid0.Coords, k0_off3 L = ![3520 * (wid L % 4)] := by decide +kernel
theorem off4_eq : ∀ L : grid0.Coords, k0_off4 L = ![14080 * (wid L % 4)] := by decide +kernel
theorem off9_eq : ∀ L : grid0.Coords, k0_off9 L = ![wid L * 3520] := by decide +kernel
theorem off10_eq : ∀ L : grid0.Coords, k0_off10 L = ![wid L * 14080] := by decide +kernel

/-! ## What a tile copies in -/

def atX0 (b r : Nat) : S8x20000x1.Idx := fun
  | 0 => ⟨b % 8, Nat.mod_lt _ (by decide)⟩ | 1 => ⟨r % 20000, Nat.mod_lt _ (by decide)⟩ | 2 => ⟨0, by decide⟩
def atX1 (b r c : Nat) : S8x20000x4.Idx := fun
  | 0 => ⟨b % 8, Nat.mod_lt _ (by decide)⟩ | 1 => ⟨r % 20000, Nat.mod_lt _ (by decide)⟩ | 2 => ⟨c % 4, Nat.mod_lt _ (by decide)⟩
def atI (n : Nat) : S14080.Idx := fun | 0 => ⟨n % 14080, Nat.mod_lt _ (by decide)⟩
def atC (n : Nat) : S56320.Idx := fun | 0 => ⟨n % 56320, Nat.mod_lt _ (by decide)⟩

/-- Tile `w`'s rows of the scores, of the regressions, its row numbers, its anchors. -/
def tileA (w : Nat) (X : Vec F S8x20000x1 .f32) : Vec F S5072x1 .f32 := fun x => X (atX0 (w / 4) (lo (w % 4) + (x 0).val))
def tileB (w : Nat) (X : Vec F S8x20000x4 .f32) : Vec F S5072x4 .f32 := fun x => X (atX1 (w / 4) (lo (w % 4) + (x 0).val) (x 1).val)
def tileI (w : Nat) (X : Vec F S14080 .i32) : Vec F S3520 .i32 := fun x => X (atI (3520 * (w % 4) + (x 0).val))
def tileC (w : Nat) (X : Vec F S56320 .f32) : Vec F S14080 .f32 := fun x => X (atC (14080 * (w % 4) + (x 0).val))

/-! ## The three results of the launch, whole -/

def outCls (X : Vec F S8x20000x1 .f32) (I : Vec F S14080 .i32) : Vec F S112640 .f32 :=
  fun n => clsT (tileA ((n 0).val / 3520) X) (tileI ((n 0).val / 3520) I) (at3520 ((n 0).val % 3520))
def outDel (X : Vec F S8x20000x4 .f32) (I : Vec F S14080 .i32) : Vec F S450560 .f32 :=
  fun n => delT (tileB ((n 0).val / 14080) X) (tileI ((n 0).val / 14080) I) (at14080 ((n 0).val % 14080))
def outRoi [FloatOps F] (X : Vec F S8x20000x4 .f32) (I : Vec F S14080 .i32) (C : Vec F S56320 .f32) : Vec F S450560 .f32 :=
  fun n => roiT (tileB ((n 0).val / 14080) X) (tileI ((n 0).val / 14080) I) (tileC ((n 0).val / 14080) C) (at14080 ((n 0).val % 14080))

/-! ## The memrefs, as the program prints them -/

local notation "x0V" => (Memref.whole Cert.KernelIdeal.main_arg0_scv : Memref Cert.KernelIdeal.sig Kind.scVector Space.hbm Cert.KernelIdeal.S8x20000x1 EltTy.f32)
local notation "x1V" => (Memref.whole Cert.KernelIdeal.main_arg1_scv : Memref Cert.KernelIdeal.sig Kind.scVector Space.hbm Cert.KernelIdeal.S8x20000x4 EltTy.f32)
local notation "iV" => (Memref.whole Cert.KernelIdeal.main_c_scv : Memref Cert.KernelIdeal.sig Kind.scVector Space.hbm Cert.KernelIdeal.S14080 EltTy.i32)
local notation "cV" => (Memref.whole Cert.KernelIdeal.main_cst_scv : Memref Cert.KernelIdeal.sig Kind.scVector Space.hbm Cert.KernelIdeal.S56320 EltTy.f32)
local notation "o0V" => (Memref.whole Cert.KernelIdeal.main_v0_0_scv : Memref Cert.KernelIdeal.sig Kind.scVector Space.hbm Cert.KernelIdeal.S112640 EltTy.f32)
local notation "o1V" => (Memref.whole Cert.KernelIdeal.main_v0_1_scv : Memref Cert.KernelIdeal.sig Kind.scVector Space.hbm Cert.KernelIdeal.S450560 EltTy.f32)
local notation "o2V" => (Memref.whole Cert.KernelIdeal.main_v0_2_scv : Memref Cert.KernelIdeal.sig Kind.scVector Space.hbm Cert.KernelIdeal.S450560 EltTy.f32)

/-- The slices the program takes. -/
abbrev x0K (L : grid0.Coords) : Memref sig .scVector .hbm S5072x1 .f32 :=
  ((x0V).slice (Rect.unit (s := S8x20000x1) (k0_off1 L) S1x5072x1.size (k0_off1_inb L)) (fun _ => rfl)).squeeze S5072x1 squeezes_S1x5072x1_S5072x1
abbrev x1K (L : grid0.Coords) : Memref sig .scVector .hbm S5072x4 .f32 :=
  ((x1V).slice (Rect.unit (s := S8x20000x4) (k0_off2 L) S1x5072x4.size (k0_off2_inb L)) (fun _ => rfl)).squeeze S5072x4 squeezes_S1x5072x4_S5072x4
abbrev iK (L : grid0.Coords) : Memref sig .scVector .hbm S3520 .i32 :=
  (iV).slice (Rect.unit (s := S14080) (k0_off3 L) S3520.size (k0_off3_inb L)) (fun _ => rfl)
abbrev cK (L : grid0.Coords) : Memref sig .scVector .hbm S14080 .f32 :=
  (cV).slice (Rect.unit (s := S56320) (k0_off4 L) S14080.size (k0_off4_inb L)) (fun _ => rfl)
abbrev o0K (L : grid0.Coords) : Memref sig .scVector .hbm S3520 .f32 :=
  (o0V).slice (Rect.unit (s := S112640) (k0_off9 L) S3520.size (k0_off9_inb L)) (fun _ => rfl)
abbrev o1K (L : grid0.Coords) : Memref sig .scVector .hbm S14080 .f32 :=
  (o1V).slice (Rect.unit (s := S450560) (k0_off10 L) S14080.size (k0_off10_inb L)) (fun _ => rfl)
abbrev o2K (L : grid0.Coords) : Memref sig .scVector .hbm S14080 .f32 :=
  (o2V).slice (Rect.unit (s := S450560) (k0_off10 L) S14080.size (k0_off10_inb L)) (fun _ => rfl)

/-! ## The elements the slices name -/

theorem x0K_emb (L : grid0.Coords) (x : S5072x1.Idx) : (x0K L).view.emb x = atX0 (wid L / 4) (lo (wid L % 4) + (x 0).val) := by
  have hw := wid_lt L
  have hx : (x 0).val < 5072 := (x 0).isLt
  have hx1 : (x 1).val < 1 := (x 1).isLt
  have hb : ∀ q, lo q ≤ 14928 := fun q => by unfold lo; split <;> omega
  have hr : (Shape.reshapeEquiv (s := S1x5072x1) (s' := S5072x1) squeezes_S1x5072x1_S5072x1.numel_eq) x
      = (fun | 0 => ⟨0, by decide⟩ | 1 => ⟨(x 0).val, hx⟩ | 2 => ⟨(x 1).val, hx1⟩ : S1x5072x1.Idx) := by
    refine Shape.reshapeEquiv_eq_of_rowMajor _ ?_
    rw [Shape.rowMajor_val_three, Shape.rowMajor_val_two]
    simp
  have hb' := hb (wid L % 4)
  funext a
  match a with
  | 0 =>
    apply Fin.ext
    show k0_off1 L 0 + 1 * ((Shape.reshapeEquiv squeezes_S1x5072x1_S5072x1.numel_eq) x 0).val = (wid L / 4) % 8
    rw [hr, off1_eq]; show wid L / 4 + 1 * 0 = _; omega
  | 1 =>
    apply Fin.ext
    show k0_off1 L 1 + 1 * ((Shape.reshapeEquiv squeezes_S1x5072x1_S5072x1.numel_eq) x 1).val = (lo (wid L % 4) + (x 0).val) % 20000
    rw [hr, off1_eq]; show lo (wid L % 4) + 1 * (x 0).val = _; omega
  | 2 =>
    apply Fin.ext
    show k0_off1 L 2 + 1 * ((Shape.reshapeEquiv squeezes_S1x5072x1_S5072x1.numel_eq) x 2).val = 0
    rw [hr, off1_eq]; show 0 + 1 * (x 1).val = _; omega

theorem x1K_emb (L : grid0.Coords) (x : S5072x4.Idx) : (x1K L).view.emb x = atX1 (wid L / 4) (lo (wid L % 4) + (x 0).val) (x 1).val := by
  have hw := wid_lt L
  have hx : (x 0).val < 5072 := (x 0).isLt
  have hx1 : (x 1).val < 4 := (x 1).isLt
  have hb : ∀ q, lo q ≤ 14928 := fun q => by unfold lo; split <;> omega
  have hr : (Shape.reshapeEquiv (s := S1x5072x4) (s' := S5072x4) squeezes_S1x5072x4_S5072x4.numel_eq) x
      = (fun | 0 => ⟨0, by decide⟩ | 1 => ⟨(x 0).val, hx⟩ | 2 => ⟨(x 1).val, hx1⟩ : S1x5072x4.Idx) := by
    refine Shape.reshapeEquiv_eq_of_rowMajor _ ?_
    rw [Shape.rowMajor_val_three, Shape.rowMajor_val_two]
    simp
  have hb' := hb (wid L % 4)
  funext a
  match a with
  | 0 =>
    apply Fin.ext
    show k0_off2 L 0 + 1 * ((Shape.reshapeEquiv squeezes_S1x5072x4_S5072x4.numel_eq) x 0).val = (wid L / 4) % 8
    rw [hr, off2_eq]; show wid L / 4 + 1 * 0 = _; omega
  | 1 =>
    apply Fin.ext
    show k0_off2 L 1 + 1 * ((Shape.reshapeEquiv squeezes_S1x5072x4_S5072x4.numel_eq) x 1).val = (lo (wid L % 4) + (x 0).val) % 20000
    rw [hr, off2_eq]; show lo (wid L % 4) + 1 * (x 0).val = _; omega
  | 2 =>
    apply Fin.ext
    show k0_off2 L 2 + 1 * ((Shape.reshapeEquiv squeezes_S1x5072x4_S5072x4.numel_eq) x 2).val = (x 1).val % 4
    rw [hr, off2_eq]; show 0 + 1 * (x 1).val = _; omega

theorem iK_emb (L : grid0.Coords) (x : S3520.Idx) : (iK L).view.emb x = atI (3520 * (wid L % 4) + (x 0).val) := by
  have hx : (x 0).val < 3520 := (x 0).isLt
  funext a
  match a with
  | 0 =>
    apply Fin.ext
    show k0_off3 L 0 + 1 * (x 0).val = (3520 * (wid L % 4) + (x 0).val) % 14080
    rw [off3_eq]; show 3520 * (wid L % 4) + 1 * (x 0).val = _; omega

theorem cK_emb (L : grid0.Coords) (x : S14080.Idx) : (cK L).view.emb x = atC (14080 * (wid L % 4) + (x 0).val) := by
  have hx : (x 0).val < 14080 := (x 0).isLt
  funext a
  match a with
  | 0 =>
    apply Fin.ext
    show k0_off4 L 0 + 1 * (x 0).val = (14080 * (wid L % 4) + (x 0).val) % 56320
    rw [off4_eq]; show 14080 * (wid L % 4) + 1 * (x 0).val = _; omega

theorem o0K_emb (L : grid0.Coords) (x : S3520.Idx) : ((o0K L).view.emb x 0).val = wid L * 3520 + (x 0).val := by
  show k0_off9 L 0 + 1 * (x 0).val = _
  rw [off9_eq]; show wid L * 3520 + 1 * (x 0).val = _; omega
theorem o1K_emb (L : grid0.Coords) (x : S14080.Idx) : ((o1K L).view.emb x 0).val = wid L * 14080 + (x 0).val := by
  show k0_off10 L 0 + 1 * (x 0).val = _
  rw [off10_eq]; show wid L * 14080 + 1 * (x 0).val = _; omega
theorem o2K_emb (L : grid0.Coords) (x : S14080.Idx) : ((o2K L).view.emb x 0).val = wid L * 14080 + (x 0).val := by
  show k0_off10 L 0 + 1 * (x 0).val = _
  rw [off10_eq]; show wid L * 14080 + 1 * (x 0).val = _; omega

/-! ## What the copies in land -/

theorem read_x0K (L : grid0.Coords) (X : Vec F S8x20000x1 .f32) : (x0K L).view.read (Elt F) X = tileA (wid L) X := by
  funext x; exact ((View.read_apply _ _).trans (cast_eq _ _)).trans (congrArg X (x0K_emb L x))
theorem read_x1K (L : grid0.Coords) (X : Vec F S8x20000x4 .f32) : (x1K L).view.read (Elt F) X = tileB (wid L) X := by
  funext x; exact ((View.read_apply _ _).trans (cast_eq _ _)).trans (congrArg X (x1K_emb L x))
theorem read_iK (L : grid0.Coords) (X : Vec F S14080 .i32) : (iK L).view.read (Elt F) X = tileI (wid L) X := by
  funext x; exact ((View.read_apply _ _).trans (cast_eq _ _)).trans (congrArg X (iK_emb L x))
theorem read_cK (L : grid0.Coords) (X : Vec F S56320 .f32) : (cK L).view.read (Elt F) X = tileC (wid L) X := by
  funext x; exact ((View.read_apply _ _).trans (cast_eq _ _)).trans (congrArg X (cK_emb L x))

/-! ## The parts of the results -/

theorem outCls_emb (L : grid0.Coords) (X : Vec F S8x20000x1 .f32) (I : Vec F S14080 .i32) (x : S3520.Idx) :
    outCls X I ((o0K L).view.emb x) = clsT (tileA (wid L) X) (tileI (wid L) I) x := by
  have hx : (x 0).val < 3520 := (x 0).isLt
  unfold outCls
  rw [o0K_emb, show (wid L * 3520 + (x 0).val) / 3520 = wid L by omega, show (wid L * 3520 + (x 0).val) % 3520 = (x 0).val by omega, at3520_self]
theorem outDel_emb (L : grid0.Coords) (X : Vec F S8x20000x4 .f32) (I : Vec F S14080 .i32) (x : S14080.Idx) :
    outDel X I ((o1K L).view.emb x) = delT (tileB (wid L) X) (tileI (wid L) I) x := by
  have hx : (x 0).val < 14080 := (x 0).isLt
  unfold outDel
  rw [o1K_emb, show (wid L * 14080 + (x 0).val) / 14080 = wid L by omega, show (wid L * 14080 + (x 0).val) % 14080 = (x 0).val by omega, at14080_self]
theorem outRoi_emb [FloatOps F] (L : grid0.Coords) (X : Vec F S8x20000x4 .f32) (I : Vec F S14080 .i32) (C : Vec F S56320 .f32) (x : S14080.Idx) :
    outRoi X I C ((o2K L).view.emb x) = roiT (tileB (wid L) X) (tileI (wid L) I) (tileC (wid L) C) x := by
  have hx : (x 0).val < 14080 := (x 0).isLt
  unfold outRoi
  rw [o2K_emb, show (wid L * 14080 + (x 0).val) / 14080 = wid L by omega, show (wid L * 14080 + (x 0).val) % 14080 = (x 0).val by omega, at14080_self]

/-! ## The parts as thirty-two equal ones -/

theorem div0 : 32 ∣ S112640.size 0 := ⟨3520, rfl⟩
theorem div1 : 32 ∣ S450560.size 0 := ⟨14080, rfl⟩
abbrev part0 (w : Fin 32) : Rect S112640 := Rect.part (s := S112640) (a₀ := 0) div0 w
abbrev part1 (w : Fin 32) : Rect S450560 := Rect.part (s := S450560) (a₀ := 0) div1 w
abbrev widF (L : grid0.Coords) : Fin 32 := ⟨wid L, wid_lt L⟩

theorem rect9_eq (L : grid0.Coords) : Rect.unit (s := S112640) (k0_off9 L) S3520.size (k0_off9_inb L) = part0 (widF L) := by
  unfold part0 Rect.part Rect.block
  congr 1 <;> funext a
  · rw [off9_eq]; match a with | 0 => simp [Shape.partIx, Shape.partSize]
  · match a with | 0 => simp [Shape.partSize]
theorem rect10_eq (L : grid0.Coords) : Rect.unit (s := S450560) (k0_off10 L) S14080.size (k0_off10_inb L) = part1 (widF L) := by
  unfold part1 Rect.part Rect.block
  congr 1 <;> funext a
  · rw [off10_eq]; match a with | 0 => simp [Shape.partIx, Shape.partSize]
  · match a with | 0 => simp [Shape.partSize]

theorem set_o0K (L : grid0.Coords) : (o0K L).view.set = (part0 (widF L)).set := by
  show ((View.whole (main_v0_0_scv : Ref sig .scVector)).slice (Rect.unit (s := S112640) (k0_off9 L) S3520.size (k0_off9_inb L))).set = _
  rw [View.set_slice, rect9_eq]; exact Finset.map_refl
theorem set_o1K (L : grid0.Coords) : (o1K L).view.set = (part1 (widF L)).set := by
  show ((View.whole (main_v0_1_scv : Ref sig .scVector)).slice (Rect.unit (s := S450560) (k0_off10 L) S14080.size (k0_off10_inb L))).set = _
  rw [View.set_slice, rect10_eq]; exact Finset.map_refl
theorem set_o2K (L : grid0.Coords) : (o2K L).view.set = (part1 (widF L)).set := by
  show ((View.whole (main_v0_2_scv : Ref sig .scVector)).slice (Rect.unit (s := S450560) (k0_off10 L) S14080.size (k0_off10_inb L))).set = _
  rw [View.set_slice, rect10_eq]; exact Finset.map_refl

end Cert.Roi.KernelIdeal
-- ==== Proof.KernelIdealTile.lean ====
module

public import proofs.«01_k».proof.Proof.KernelIdealSlices
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Roi.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "x0V" => (Memref.whole Cert.KernelIdeal.main_arg0_scv : Memref Cert.KernelIdeal.sig Kind.scVector Space.hbm Cert.KernelIdeal.S8x20000x1 EltTy.f32)
local notation "x1V" => (Memref.whole Cert.KernelIdeal.main_arg1_scv : Memref Cert.KernelIdeal.sig Kind.scVector Space.hbm Cert.KernelIdeal.S8x20000x4 EltTy.f32)
local notation "iV" => (Memref.whole Cert.KernelIdeal.main_c_scv : Memref Cert.KernelIdeal.sig Kind.scVector Space.hbm Cert.KernelIdeal.S14080 EltTy.i32)
local notation "cV" => (Memref.whole Cert.KernelIdeal.main_cst_scv : Memref Cert.KernelIdeal.sig Kind.scVector Space.hbm Cert.KernelIdeal.S56320 EltTy.f32)
local notation "o0V" => (Memref.whole Cert.KernelIdeal.main_v0_0_scv : Memref Cert.KernelIdeal.sig Kind.scVector Space.hbm Cert.KernelIdeal.S112640 EltTy.f32)
local notation "o1V" => (Memref.whole Cert.KernelIdeal.main_v0_1_scv : Memref Cert.KernelIdeal.sig Kind.scVector Space.hbm Cert.KernelIdeal.S450560 EltTy.f32)
local notation "o2V" => (Memref.whole Cert.KernelIdeal.main_v0_2_scv : Memref Cert.KernelIdeal.sig Kind.scVector Space.hbm Cert.KernelIdeal.S450560 EltTy.f32)
local notation "sA" => (Memref.whole Cert.KernelIdeal.cc0_scratch0 : Memref Cert.KernelIdeal.sig Kind.scVector Space.vmem Cert.KernelIdeal.S5072x1 EltTy.f32)
local notation "sB" => (Memref.whole Cert.KernelIdeal.cc0_scratch1 : Memref Cert.KernelIdeal.sig Kind.scVector Space.vmem Cert.KernelIdeal.S5072x4 EltTy.f32)
local notation "sI" => (Memref.whole Cert.KernelIdeal.cc0_scratch2 : Memref Cert.KernelIdeal.sig Kind.scVector Space.vmem Cert.KernelIdeal.S3520 EltTy.i32)
local notation "sC" => (Memref.whole Cert.KernelIdeal.cc0_scratch3 : Memref Cert.KernelIdeal.sig Kind.scVector Space.vmem Cert.KernelIdeal.S14080 EltTy.f32)
local notation "sO" => (Memref.whole Cert.KernelIdeal.cc0_scratch4 : Memref Cert.KernelIdeal.sig Kind.scVector Space.vmem Cert.KernelIdeal.S3520 EltTy.f32)
local notation "sD" => (Memref.whole Cert.KernelIdeal.cc0_scratch5 : Memref Cert.KernelIdeal.sig Kind.scVector Space.vmem Cert.KernelIdeal.S14080 EltTy.f32)
local notation "sR" => (Memref.whole Cert.KernelIdeal.cc0_scratch6 : Memref Cert.KernelIdeal.sig Kind.scVector Space.vmem Cert.KernelIdeal.S14080 EltTy.f32)

variable [FloatOps F]

/-! ## What a trip reads and leaves -/

/-- The row numbers trip `t` reads. -/
abbrev rI (I : Vec F S3520 .i32) (t : Fin k0_t1_loop.trips) : IVec S16 32 :=
  View.readAt (Elt F) (sI).view (Rect.unit (s := S3520) (k0_off5 t) S16.size (k0_off5_inb t)).toLoadRect I
/-- The anchors' widths, heights and centres it reads. -/
abbrev rC0 (C : Vec F S14080 .f32) (t : Fin k0_t1_loop.trips) : Vec F S16 .f32 :=
  View.readAt (Elt F) (sC).view (Rect.unit (s := S14080) (k0_off7 t) S16.size (k0_off7_inb t)).toLoadRect C
abbrev rC1 (C : Vec F S14080 .f32) (t : Fin k0_t1_loop.trips) : Vec F S16 .f32 :=
  View.readAt (Elt F) (sC).view (Rect.unit (s := S14080) (k0_off8 t 3520#32) S16.size (k0_off8_inb t 0)).toLoadRect C
abbrev rC2 (C : Vec F S14080 .f32) (t : Fin k0_t1_loop.trips) : Vec F S16 .f32 :=
  View.readAt (Elt F) (sC).view (Rect.unit (s := S14080) (k0_off8 t 7040#32) S16.size (k0_off8_inb t 1)).toLoadRect C
abbrev rC3 (C : Vec F S14080 .f32) (t : Fin k0_t1_loop.trips) : Vec F S16 .f32 :=
  View.readAt (Elt F) (sC).view (Rect.unit (s := S14080) (k0_off8 t 10560#32) S16.size (k0_off8_inb t 2)).toLoadRect C

omit [FloatOps F] in
theorem rI_apply (I : Vec F S3520 .i32) (t : Fin k0_t1_loop.trips) (x : S16.Idx) : rI I t x = I (at3520 (16 * t.val + (x 0).val)) := by
  have ht := trips_lt t
  have hx : (x 0).val < 16 := (x 0).isLt
  show I ((Rect.unit (s := S3520) (k0_off5 t) S16.size (k0_off5_inb t)).toLoadRect.idx x) = _
  congr 1; funext a
  match a with
  | 0 =>
    apply Fin.ext
    show k0_off5 t 0 + 1 * (x 0).val = (16 * t.val + (x 0).val) % 3520
    rw [k0_off5_eq]; show 16 * t.val + 1 * (x 0).val = _; omega
omit [FloatOps F] in
theorem rC0_apply (C : Vec F S14080 .f32) (t : Fin k0_t1_loop.trips) (x : S16.Idx) : rC0 C t x = C (at14080 (16 * t.val + (x 0).val)) := by
  have ht := trips_lt t
  have hx : (x 0).val < 16 := (x 0).isLt
  show C ((Rect.unit (s := S14080) (k0_off7 t) S16.size (k0_off7_inb t)).toLoadRect.idx x) = _
  congr 1; funext a
  match a with
  | 0 =>
    apply Fin.ext
    show k0_off7 t 0 + 1 * (x 0).val = (16 * t.val + (x 0).val) % 14080
    rw [k0_off7_eq]; show 16 * t.val + 1 * (x 0).val = _; omega
omit [FloatOps F] in
theorem rC1_apply (C : Vec F S14080 .f32) (t : Fin k0_t1_loop.trips) (x : S16.Idx) : rC1 C t x = C (at14080 (3520 + (16 * t.val + (x 0).val))) := by
  have ht := trips_lt t
  have hx : (x 0).val < 16 := (x 0).isLt
  show C ((Rect.unit (s := S14080) (k0_off8 t 3520#32) S16.size (k0_off8_inb t 0)).toLoadRect.idx x) = _
  congr 1; funext a
  match a with
  | 0 =>
    apply Fin.ext
    show k0_off8 t 3520#32 0 + 1 * (x 0).val = (3520 + (16 * t.val + (x 0).val)) % 14080
    rw [show k0_off8 t 3520#32 = ![3520 * 0 + 16 * t.val + 3520] from k0_off8_eq t ⟨0, by decide⟩]
    show 3520 * 0 + 16 * t.val + 3520 + 1 * (x 0).val = _; omega
omit [FloatOps F] in
theorem rC2_apply (C : Vec F S14080 .f32) (t : Fin k0_t1_loop.trips) (x : S16.Idx) : rC2 C t x = C (at14080 (7040 + (16 * t.val + (x 0).val))) := by
  have ht := trips_lt t
  have hx : (x 0).val < 16 := (x 0).isLt
  show C ((Rect.unit (s := S14080) (k0_off8 t 7040#32) S16.size (k0_off8_inb t 1)).toLoadRect.idx x) = _
  congr 1; funext a
  match a with
  | 0 =>
    apply Fin.ext
    show k0_off8 t 7040#32 0 + 1 * (x 0).val = (7040 + (16 * t.val + (x 0).val)) % 14080
    rw [show k0_off8 t 7040#32 = ![3520 * 1 + 16 * t.val + 3520] from k0_off8_eq t ⟨1, by decide⟩]
    show 3520 * 1 + 16 * t.val + 3520 + 1 * (x 0).val = _; omega
omit [FloatOps F] in
theorem rC3_apply (C : Vec F S14080 .f32) (t : Fin k0_t1_loop.trips) (x : S16.Idx) : rC3 C t x = C (at14080 (10560 + (16 * t.val + (x 0).val))) := by
  have ht := trips_lt t
  have hx : (x 0).val < 16 := (x 0).isLt
  show C ((Rect.unit (s := S14080) (k0_off8 t 10560#32) S16.size (k0_off8_inb t 2)).toLoadRect.idx x) = _
  congr 1; funext a
  match a with
  | 0 =>
    apply Fin.ext
    show k0_off8 t 10560#32 0 + 1 * (x 0).val = (10560 + (16 * t.val + (x 0).val)) % 14080
    rw [show k0_off8 t 10560#32 = ![3520 * 2 + 16 * t.val + 3520] from k0_off8_eq t ⟨2, by decide⟩]
    show 3520 * 2 + 16 * t.val + 3520 + 1 * (x 0).val = _; omega

/-- The sixteen scores stored by trip `t`, over what was there. -/
theorem cls_done (A : Vec F S5072x1 .f32) (I : Vec F S3520 .i32) (t : Fin k0_t1_loop.trips) (f : Vec F S3520 .f32) (h)
    (hf : ∀ y : S3520.Idx, (y 0).val < 16 * t.val → f y = clsT A I y) (y : S3520.Idx) (hy : (y 0).val < 16 * (t.val + 1)) :
    ((sO).view.writes (Elt F) f [⟨Rect.unit (s := S3520) (k0_off6 t) S16.size (k0_off6_inb t),
      loadIdx (t := S16) A (![rI I t, broadcast S16 0#32] : Fin 2 → IVec S16 32) h⟩] : Vec F S3520 .f32) y = clsT A I y := by
  have ht := trips_lt t
  have e : k0_off6 t 0 = 16 * t.val := by rw [k0_off6_eq]; rfl
  have hs : ((sO).view.slice (Rect.unit (s := S3520) (k0_off6 t) S16.size (k0_off6_inb t))).set = (Rect.unit (s := S3520) (k0_off6 t) S16.size (k0_off6_inb t)).set := by
    rw [View.set_slice]; exact Finset.map_refl
  rw [View.writes_singleton]
  by_cases hlt : (y 0).val < 16 * t.val
  · rw [View.write_of_not_mem, hf y hlt]
    rw [show ((sO).view.slice (Rect.unit (s := S3520) (k0_off6 t) S16.size (k0_off6_inb t))).setOn Finset.univ = _ from hs, Rect.mem_set_unit]
    intro H
    have := (H 0).1
    rw [e] at this; omega
  · have he : ((sO).view.slice (Rect.unit (s := S3520) (k0_off6 t) S16.size (k0_off6_inb t))).emb (lane ((y 0).val - 16 * t.val)) = y := by
      funext a
      match a with
      | 0 =>
        apply Fin.ext
        show k0_off6 t 0 + 1 * (((y 0).val - 16 * t.val) % 16) = (y 0).val
        rw [e]; omega
    conv_lhs => rw [← he]
    rw [View.write_emb_of_mem _ _ (Finset.mem_univ _)]
    show loadIdx (t := S16) A (![rI I t, broadcast S16 0#32] : Fin 2 → IVec S16 32) h (lane ((y 0).val - 16 * t.val)) = _
    rw [loadIdx_row1, rI_apply]
    unfold clsT
    rw [show 16 * t.val + (lane ((y 0).val - 16 * t.val) 0).val = (y 0).val from by
      show 16 * t.val + ((y 0).val - 16 * t.val) % 16 = _; omega, at3520_self]

/-- The sixty-four regressions. -/
theorem del_done (B : Vec F S5072x4 .f32) (I : Vec F S3520 .i32) (t : Fin k0_t1_loop.trips) (g : Vec F S14080 .f32) (l0 l1 l2 l3 h0 h1 h2 h3)
    (hg : ∀ y : S14080.Idx, (y 0).val < 64 * t.val → g y = delT B I y) (y : S14080.Idx) (hy : (y 0).val < 64 * (t.val + 1)) :
    (storeIdx (storeIdx (storeIdx (storeIdx g (![k0_pay2 0#32 1#32 t] : Fin 1 → IVec S16 32) (loadIdx (t := S16) B (![rI I t, broadcast S16 0#32] : Fin 2 → IVec S16 32) l0) (fun _ => 1#1) false h0)
      (![k0_pay3 0#32 1#32 t] : Fin 1 → IVec S16 32) (loadIdx (t := S16) B (![rI I t, broadcast S16 1#32] : Fin 2 → IVec S16 32) l1) (fun _ => 1#1) false h1)
      (![k0_pay4 0#32 1#32 t] : Fin 1 → IVec S16 32) (loadIdx (t := S16) B (![rI I t, broadcast S16 2#32] : Fin 2 → IVec S16 32) l2) (fun _ => 1#1) false h2)
      (![k0_pay5 0#32 1#32 t] : Fin 1 → IVec S16 32) (loadIdx (t := S16) B (![rI I t, broadcast S16 3#32] : Fin 2 → IVec S16 32) l3) (fun _ => 1#1) false h3 : Vec F S14080 .f32) y
      = delT B I y := by
  have ht := trips_lt t
  have key : ∀ (b : BitVec 32) (hb : b.toNat < 4) (l) (x : S16.Idx), (loadIdx (t := S16) B (![rI I t, broadcast S16 b] : Fin 2 → IVec S16 32) l : Vec F S16 .f32) x
      = delT B I (at14080 (64 * t.val + 4 * (x 0).val + b.toNat)) := by
    intro b hb l x
    have hx : (x 0).val < 16 := (x 0).isLt
    rw [loadIdx_row4, rI_apply]
    unfold delT
    rw [at14080_val _ (by omega), show (64 * t.val + 4 * (x 0).val + b.toNat) / 4 = 16 * t.val + (x 0).val by omega,
      show (64 * t.val + 4 * (x 0).val + b.toNat) % 4 = b.toNat by omega]
  exact store4 (delT B I) g _ _ _ _ _ _ _ _ _ _ _ _ h0 h1 h2 h3 t.val ht (pay_add t 0#32 (by decide)) (pay_add t 1#32 (by decide)) (pay_add t 2#32 (by decide)) (pay_add t 3#32 (by decide))
    (key 0#32 (by decide) l0) (key 1#32 (by decide) l1) (key 2#32 (by decide) l2) (key 3#32 (by decide) l3) rfl rfl rfl rfl hg y hy

/-- The sixty-four coordinates. -/
theorem roi_done (B : Vec F S5072x4 .f32) (I : Vec F S3520 .i32) (C : Vec F S14080 .f32) (t : Fin k0_t1_loop.trips) (g : Vec F S14080 .f32)
    (d0 d1 d2 d3 : Vec F S16 .f32) (l0 l1 l2 l3)
    (hd0 : d0 = loadIdx (t := S16) B (![rI I t, broadcast S16 0#32] : Fin 2 → IVec S16 32) l0)
    (hd1 : d1 = loadIdx (t := S16) B (![rI I t, broadcast S16 1#32] : Fin 2 → IVec S16 32) l1)
    (hd2 : d2 = loadIdx (t := S16) B (![rI I t, broadcast S16 2#32] : Fin 2 → IVec S16 32) l2)
    (hd3 : d3 = loadIdx (t := S16) B (![rI I t, broadcast S16 3#32] : Fin 2 → IVec S16 32) l3)
    (h0 h1 h2 h3)
    (hg : ∀ y : S14080.Idx, (y 0).val < 64 * t.val → g y = roiT B I C y) (y : S14080.Idx) (hy : (y 0).val < 64 * (t.val + 1)) :
    (storeIdx (storeIdx (storeIdx (storeIdx g (![k0_pay12 (k0_pay1 0#32 1#32 t)] : Fin 1 → IVec S16 32) (k0_pay13 d0 d2 (rC0 C t) (rC2 C t)) (fun _ => 1#1) false h0)
      (![k0_pay14 (k0_pay1 0#32 1#32 t)] : Fin 1 → IVec S16 32) (k0_pay15 d1 d3 (rC1 C t) (rC3 C t)) (fun _ => 1#1) false h1)
      (![k0_pay16 (k0_pay1 0#32 1#32 t)] : Fin 1 → IVec S16 32) (k0_pay17 (k0_pay10 d0 d2 (rC0 C t) (rC2 C t))) (fun _ => 1#1) false h2)
      (![k0_pay18 (k0_pay1 0#32 1#32 t)] : Fin 1 → IVec S16 32) (k0_pay19 (k0_pay11 d1 d3 (rC1 C t) (rC3 C t))) (fun _ => 1#1) false h3 : Vec F S14080 .f32) y
      = roiT B I C y := by
  have ht := trips_lt t
  have key : ∀ (b : Nat) (hb : b < 4) (x : S16.Idx), roiT B I C (at14080 (64 * t.val + 4 * (x 0).val + b))
      = box (d0 x) (d1 x) (d2 x) (d3 x) (rC0 C t x) (rC1 C t x) (rC2 C t x) (rC3 C t x) b := by
    intro b hb x
    have hx : (x 0).val < 16 := (x 0).isLt
    rw [hd0, hd1, hd2, hd3, loadIdx_row4, loadIdx_row4, loadIdx_row4, loadIdx_row4, rI_apply, rC0_apply, rC1_apply, rC2_apply, rC3_apply]
    unfold roiT
    rw [at14080_val _ (by omega), show (64 * t.val + 4 * (x 0).val + b) / 4 = 16 * t.val + (x 0).val by omega,
      show (64 * t.val + 4 * (x 0).val + b) % 4 = b by omega]
    rfl
  exact store4 (roiT B I C) g _ _ _ _ _ _ _ _ _ _ _ _ h0 h1 h2 h3 t.val ht (pay_add t 0#32 (by decide)) (pay_add t 1#32 (by decide)) (pay_add t 2#32 (by decide)) (pay_add t 3#32 (by decide))
    (fun x => (key 0 (by decide) x).symm) (fun x => (key 1 (by decide) x).symm) (fun x => (key 2 (by decide) x).symm) (fun x => (key 3 (by decide) x).symm)
    rfl rfl rfl rfl hg y hy

section Tile

variable (d : Dev nD) (L : grid0.Coords)

abbrev cT (L : grid0.Coords) : Fin τ.nSC := (L 0).castLE hcore0
abbrev jT (L : grid0.Coords) : Fin τ.nSub := (L 1).castLE hsub0
abbrev VT (d : Dev nD) (L : grid0.Coords) : Thread nD τ := V d (cT L) (jT L)

/-- The seven copy counters the tile waits on, in the body's spelling. -/
abbrev csem (k : Nat) (hk : k < 7 := by decide) : DmaSem sig := ⟨k, hk⟩
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0)

/-- A tile's share of an array every tile reads. -/
def tq (w : Nat) : PosShare TreeShare := Transfers.shareTokN fullShare w

/-- Before trip `k`: what was copied in is as it was, and the first `16 k` scores, `64 k` regressions and coordinates are done. -/
def inv (A : Vec F S5072x1 .f32) (B : Vec F S5072x4 .f32) (I : Vec F S3520 .i32) (C : Vec F S14080 .f32) (k : Nat) (_ : PUnit) : sProp 𝕄 :=
  iprop(((sA).view.loc (VT d L) ↦{fullShare} A) ∗ ((sB).view.loc (VT d L) ↦{fullShare} B)
    ∗ ((sI).view.loc (VT d L) ↦{fullShare} I) ∗ ((sC).view.loc (VT d L) ↦{fullShare} C)
    ∗ (∃ f : Vec F S3520 .f32, ⌜∀ y : S3520.Idx, (y 0).val < 16 * k → f y = clsT A I y⌝ ∗ (sO).view.loc (VT d L) ↦{fullShare} f)
    ∗ (∃ f : Vec F S14080 .f32, ⌜∀ y : S14080.Idx, (y 0).val < 64 * k → f y = delT B I y⌝ ∗ (sD).view.loc (VT d L) ↦{fullShare} f)
    ∗ ∃ f : Vec F S14080 .f32, ⌜∀ y : S14080.Idx, (y 0).val < 64 * k → f y = roiT B I C y⌝ ∗ (sR).view.loc (VT d L) ↦{fullShare} f)

/-! ## The loop's indexed accesses, each on a whole buffer -/

/-- An indexed load from the copied scores, the whole buffer held. -/
theorem ldx_sA {idxs : Fin 2 → IVec S16 32} {h : ∀ a x, (idxs a x).toNat < S5072x1.size a} {hl : (sA).view.Loads}
    {α : Type} {k : Vec F S16 .f32 → Prog (TpuEff nD τ sig (Elt F) Λ₀ (.scVector (cT L) (jT L))) α} {Q : α → sProp 𝕄} {f : Vec F S5072x1 .f32} :
    (((sA).view.loc (VT d L) ↦{fullShare} f : sProp 𝕄))
      ⊢ iprop((((sA).view.loc (VT d L) ↦{fullShare} f) -∗ wp frame (wpE (defs₀ (F := F)) 𝒱₀ (VT d L) none) Set.univ (k (loadIdx f idxs h)) Q)
        -∗ wp frame (wpE (defs₀ (F := F)) 𝒱₀ (VT d L) none) Set.univ (SparseCore.vectorLoadIdx sA idxs h hl >>= k) Q) := by
  have := SparseCore.wp_vectorLoadIdx (defs := defs₀ (F := F)) 𝒱₀ (VT d L) none Set.univ (Q := Q) (base := sA) (idxs := idxs) (h := h) (hl := hl) (k := k)
    (S := Finset.univ) (q := fullShare) (f := f) (Finset.subset_univ _)
  rw [Memref.read_access_whole] at this
  exact this

/-- An indexed load from the copied regressions, the whole buffer held. -/
theorem ldx_sB {idxs : Fin 2 → IVec S16 32} {h : ∀ a x, (idxs a x).toNat < S5072x4.size a} {hl : (sB).view.Loads}
    {α : Type} {k : Vec F S16 .f32 → Prog (TpuEff nD τ sig (Elt F) Λ₀ (.scVector (cT L) (jT L))) α} {Q : α → sProp 𝕄} {f : Vec F S5072x4 .f32} :
    (((sB).view.loc (VT d L) ↦{fullShare} f : sProp 𝕄))
      ⊢ iprop((((sB).view.loc (VT d L) ↦{fullShare} f) -∗ wp frame (wpE (defs₀ (F := F)) 𝒱₀ (VT d L) none) Set.univ (k (loadIdx f idxs h)) Q)
        -∗ wp frame (wpE (defs₀ (F := F)) 𝒱₀ (VT d L) none) Set.univ (SparseCore.vectorLoadIdx sB idxs h hl >>= k) Q) := by
  have := SparseCore.wp_vectorLoadIdx (defs := defs₀ (F := F)) 𝒱₀ (VT d L) none Set.univ (Q := Q) (base := sB) (idxs := idxs) (h := h) (hl := hl) (k := k)
    (S := Finset.univ) (q := fullShare) (f := f) (Finset.subset_univ _)
  rw [Memref.read_access_whole] at this
  exact this

/-- An indexed store into the gathered regressions, the whole buffer held. -/
theorem stx_sD {idxs : Fin 1 → IVec S16 32} {v : Vec F S16 .f32} {mask : IVec S16 1} {h : ∀ a x, (idxs a x).toNat < S14080.size a}
    {hs : ((sD).access (.whole S14080)).Stores Finset.univ}
    {α : Type} {k : PUnit → Prog (TpuEff nD τ sig (Elt F) Λ₀ (.scVector (cT L) (jT L))) α} {Q : α → sProp 𝕄} {f : Vec F S14080 .f32} :
    (((sD).view.loc (VT d L) ↦{fullShare} f : sProp 𝕄))
      ⊢ iprop((((sD).view.loc (VT d L) ↦{fullShare} (storeIdx f idxs v mask false h : Vec F S14080 .f32))
          -∗ wp frame (wpE (defs₀ (F := F)) 𝒱₀ (VT d L) none) Set.univ (k ⟨⟩) Q)
        -∗ wp frame (wpE (defs₀ (F := F)) 𝒱₀ (VT d L) none) Set.univ (SparseCore.vectorStoreIdx sD idxs v mask false h hs >>= k) Q) := by
  have := SparseCore.wp_vectorStoreIdx (defs := defs₀ (F := F)) 𝒱₀ (VT d L) none Set.univ (Q := Q) (base := sD) (idxs := idxs) (v := v) (mask := mask) (add := false)
    (h := h) (hs := hs) (k := k) (f := f)
  rw [Memref.read_access_whole, Memref.write_access_whole_univ, Memref.set_access_whole] at this
  exact this

/-- An indexed store into the boxes, the whole buffer held. -/
theorem stx_sR {idxs : Fin 1 → IVec S16 32} {v : Vec F S16 .f32} {mask : IVec S16 1} {h : ∀ a x, (idxs a x).toNat < S14080.size a}
    {hs : ((sR).access (.whole S14080)).Stores Finset.univ}
    {α : Type} {k : PUnit → Prog (TpuEff nD τ sig (Elt F) Λ₀ (.scVector (cT L) (jT L))) α} {Q : α → sProp 𝕄} {f : Vec F S14080 .f32} :
    (((sR).view.loc (VT d L) ↦{fullShare} f : sProp 𝕄))
      ⊢ iprop((((sR).view.loc (VT d L) ↦{fullShare} (storeIdx f idxs v mask false h : Vec F S14080 .f32))
          -∗ wp frame (wpE (defs₀ (F := F)) 𝒱₀ (VT d L) none) Set.univ (k ⟨⟩) Q)
        -∗ wp frame (wpE (defs₀ (F := F)) 𝒱₀ (VT d L) none) Set.univ (SparseCore.vectorStoreIdx sR idxs v mask false h hs >>= k) Q) := by
  have := SparseCore.wp_vectorStoreIdx (defs := defs₀ (F := F)) 𝒱₀ (VT d L) none Set.univ (Q := Q) (base := sR) (idxs := idxs) (v := v) (mask := mask) (add := false)
    (h := h) (hs := hs) (k := k) (f := f)
  rw [Memref.read_access_whole, Memref.write_access_whole_univ, Memref.set_access_whole] at this
  exact this

omit [FloatOps F] in
theorem chk_row1 (v : IVec S16 32) (hv : ∀ x, (v x).toNat < 5072) :
    ∀ a x, ((![v, broadcast S16 0#32] : Fin 2 → IVec S16 32) a x).toNat < S5072x1.size a := fun a x => by
  match a with
  | 0 => exact hv x
  | 1 => exact (by decide : (0#32).toNat < 1)
omit [FloatOps F] in
theorem chk_row4 (v : IVec S16 32) (b : BitVec 32) (hb : b.toNat < 4) (hv : ∀ x, (v x).toNat < 5072) :
    ∀ a x, ((![v, broadcast S16 b] : Fin 2 → IVec S16 32) a x).toNat < S5072x4.size a := fun a x => by
  match a with
  | 0 => exact hv x
  | 1 => exact hb

set_option maxHeartbeats 8000000 in
theorem trip (A : Vec F S5072x1 .f32) (B : Vec F S5072x4 .f32) (I : Vec F S3520 .i32) (C : Vec F S14080 .f32) (hI : ∀ x, (I x).toNat < 5072)
    (v18 v28 c : BitVec 32) (t : Fin k0_t1_loop.trips) :
    (inv d L A B I C t.val ⟨⟩ : sProp 𝕄)
      ⊢ wp frame (wpE (defs₀ (F := F)) 𝒱₀ (VT d L) none) Set.univ
          (k0_t1_body L x0V (Memref.isWhole_whole _) x1V (Memref.isWhole_whole _) iV (Memref.isWhole_whole _) cV (Memref.isWhole_whole _)
            o0V (Memref.isWhole_whole _) o1V (Memref.isWhole_whole _) o2V (Memref.isWhole_whole _)
            sA (Memref.isWhole_whole _) sB (Memref.isWhole_whole _) sI (Memref.isWhole_whole _) sC (Memref.isWhole_whole _)
            sO (Memref.isWhole_whole _) sD (Memref.isWhole_whole _) sR (Memref.isWhole_whole _)
            cc0_scoped0 cc0_scoped1 cc0_scoped2 cc0_scoped3 cc0_scoped4 cc0_scoped5 cc0_scoped6 v18 v28 c t ⟨⟩)
          fun _ => inv d L A B I C (t.val + 1) ⟨⟩ := by
  unfold k0_t1_body
  rw [k0_part1_eq_skeleton, k0_part2_eq_skeleton]; unfold k0_part1_skel k0_part2_skel
  unfold inv
  iintro ⟨HA, HB, HI, HC, ⟨%f, %hf, HO⟩, ⟨%g, %hg, HD⟩, ⟨%r, %hr, HR⟩⟩
  have hv : ∀ x, ((View.readAt (Elt F) (sI).view (Rect.unit (s := S3520) (k0_off5 t) S16.size (k0_off5_inb t)).toLoadRect I : IVec S16 32) x).toNat < 5072 := fun x => hI _
  have hk1 : k0_chk1 (View.readAt (Elt F) (sI).view (Rect.unit (s := S3520) (k0_off5 t) S16.size (k0_off5_inb t)).toLoadRect I) (broadcast S16 0#32) := chk_row1 _ hv
  have hk2 : k0_chk2 (View.readAt (Elt F) (sI).view (Rect.unit (s := S3520) (k0_off5 t) S16.size (k0_off5_inb t)).toLoadRect I) (broadcast S16 0#32) := chk_row4 _ _ (by decide) hv
  have hk4 : k0_chk4 (View.readAt (Elt F) (sI).view (Rect.unit (s := S3520) (k0_off5 t) S16.size (k0_off5_inb t)).toLoadRect I) (broadcast S16 1#32) := chk_row4 _ _ (by decide) hv
  have hk6 : k0_chk6 (View.readAt (Elt F) (sI).view (Rect.unit (s := S3520) (k0_off5 t) S16.size (k0_off5_inb t)).toLoadRect I) (broadcast S16 2#32) := chk_row4 _ _ (by decide) hv
  have hk8 : k0_chk8 (View.readAt (Elt F) (sI).view (Rect.unit (s := S3520) (k0_off5 t) S16.size (k0_off5_inb t)).toLoadRect I) (broadcast S16 3#32) := chk_row4 _ _ (by decide) hv
  have hk3 : k0_chk3 (k0_pay2 0#32 1#32 t) := chk_add t _ (by decide)
  have hk5 : k0_chk5 (k0_pay3 0#32 1#32 t) := chk_add t _ (by decide)
  have hk7 : k0_chk7 (k0_pay4 0#32 1#32 t) := chk_add t _ (by decide)
  have hk9 : k0_chk9 (k0_pay5 0#32 1#32 t) := chk_add t _ (by decide)
  have hk10 : k0_chk10 (k0_pay12 (k0_pay1 0#32 1#32 t)) := chk_add t _ (by decide)
  have hk11 : k0_chk11 (k0_pay14 (k0_pay1 0#32 1#32 t)) := chk_add t _ (by decide)
  have hk12 : k0_chk12 (k0_pay16 (k0_pay1 0#32 1#32 t)) := chk_add t _ (by decide)
  have hk13 : k0_chk13 (k0_pay18 (k0_pay1 0#32 1#32 t)) := chk_add t _ (by decide)
  sl_exec
  rw [bind_assoc]
  iapply (ldx_sA d L) $$ HA; iintro HA
  sl_exec
  rw [bind_assoc]
  iapply (ldx_sB d L) $$ HB; iintro HB
  sl_exec
  rw [bind_assoc]
  iapply (stx_sD d L) $$ HD; iintro HD
  sl_exec
  rw [bind_assoc]
  iapply (ldx_sB d L) $$ HB; iintro HB
  sl_exec
  rw [bind_assoc]
  iapply (stx_sD d L) $$ HD; iintro HD
  sl_exec
  rw [bind_assoc]
  iapply (ldx_sB d L) $$ HB; iintro HB
  sl_exec
  rw [bind_assoc]
  iapply (stx_sD d L) $$ HD; iintro HD
  sl_exec
  rw [bind_assoc]
  iapply (ldx_sB d L) $$ HB; iintro HB
  sl_exec
  rw [bind_assoc]
  iapply (stx_sD d L) $$ HD; iintro HD
  sl_exec
  rw [bind_assoc]
  iapply (stx_sR d L) $$ HR; iintro HR
  sl_exec
  rw [bind_assoc]
  iapply (stx_sR d L) $$ HR; iintro HR
  sl_exec
  iapply (stx_sR d L) $$ HR; iintro HR
  sl_exec
  iapply (stx_sR d L) $$ HR; iintro HR
  sl_step
  isplitl [HA]; · iexact HA
  isplitl [HB]; · iexact HB
  isplitl [HI]; · iexact HI
  isplitl [HC]; · iexact HC
  isplitl [HO]
  · iexists _; isplitr
    swap
    · iexact HO
    · ipureintro; exact cls_done A I t f _ hf
  isplitl [HD]
  · iexists _; isplitr
    swap
    · iexact HD
    · ipureintro; exact del_done B I t g _ _ _ _ _ _ _ _ hg
  · iexists _; isplitr
    swap
    · iexact HR
    · ipureintro; exact roi_done B I C t r _ _ _ _ _ _ _ _ rfl rfl rfl rfl _ _ _ _ hr

theorem out0_done (X0 : Vec F S8x20000x1 .f32) (I : Vec F S14080 .i32) (g : Vec F S112640 .f32) (f : Vec F S3520 .f32)
    (h : ∀ y, f y = clsT (tileA (wid L) X0) (tileI (wid L) I) y) :
    ∀ i ∈ (o0K L).view.set, ((o0K L).view.writes (Elt F) g [⟨Rect.whole S3520, f⟩] : Vec F S112640 .f32) i = outCls X0 I i := by
  intro i hi
  obtain ⟨x, -, rfl⟩ := Finset.mem_map.mp hi
  have ew : (Rect.whole S3520).emb x = x := Rect.emb_whole_apply S3520 x
  have e : ((o0K L).view.slice (Rect.whole S3520)).emb x = (o0K L).view.emb x := congrArg (o0K L).view.emb ew
  rw [outCls_emb, ← h, View.writes_singleton]
  conv_lhs => rw [← e]
  rw [View.write_emb_of_mem _ _ (Finset.mem_univ _)]
  rfl

theorem out1_done (X1 : Vec F S8x20000x4 .f32) (I : Vec F S14080 .i32) (g : Vec F S450560 .f32) (f : Vec F S14080 .f32)
    (h : ∀ y, f y = delT (tileB (wid L) X1) (tileI (wid L) I) y) :
    ∀ i ∈ (o1K L).view.set, ((o1K L).view.writes (Elt F) g [⟨Rect.whole S14080, f⟩] : Vec F S450560 .f32) i = outDel X1 I i := by
  intro i hi
  obtain ⟨x, -, rfl⟩ := Finset.mem_map.mp hi
  have ew : (Rect.whole S14080).emb x = x := Rect.emb_whole_apply S14080 x
  have e : ((o1K L).view.slice (Rect.whole S14080)).emb x = (o1K L).view.emb x := congrArg (o1K L).view.emb ew
  rw [outDel_emb, ← h, View.writes_singleton]
  conv_lhs => rw [← e]
  rw [View.write_emb_of_mem _ _ (Finset.mem_univ _)]
  rfl

theorem out2_done (X1 : Vec F S8x20000x4 .f32) (I : Vec F S14080 .i32) (C : Vec F S56320 .f32) (g : Vec F S450560 .f32) (f : Vec F S14080 .f32)
    (h : ∀ y, f y = roiT (tileB (wid L) X1) (tileI (wid L) I) (tileC (wid L) C) y) :
    ∀ i ∈ (o2K L).view.set, ((o2K L).view.writes (Elt F) g [⟨Rect.whole S14080, f⟩] : Vec F S450560 .f32) i = outRoi X1 I C i := by
  intro i hi
  obtain ⟨x, -, rfl⟩ := Finset.mem_map.mp hi
  have ew : (Rect.whole S14080).emb x = x := Rect.emb_whole_apply S14080 x
  have e : ((o2K L).view.slice (Rect.whole S14080)).emb x = (o2K L).view.emb x := congrArg (o2K L).view.emb ew
  rw [outRoi_emb, ← h, View.writes_singleton]
  conv_lhs => rw [← e]
  rw [View.write_emb_of_mem _ _ (Finset.mem_univ _)]
  rfl

theorem tile_run (O : CellTallies nD τ sig (HIx 1)) (W : Waits sig (HIx 1))
    (X0 : Buf (Elt F) ((x0V).view.loc (VT d L))) (X1 : Buf (Elt F) ((x1V).view.loc (VT d L)))
    (I : Buf (Elt F) ((iV).view.loc (VT d L))) (C : Buf (Elt F) ((cV).view.loc (VT d L)))
    (g0 : Buf (Elt F) ((o0V).view.loc (VT d L))) (g1 : Buf (Elt F) ((o1V).view.loc (VT d L))) (g2 : Buf (Elt F) ((o2V).view.loc (VT d L)))
    (a0 : Buf (Elt F) ((sA).view.loc (VT d L))) (b0 : Buf (Elt F) ((sB).view.loc (VT d L))) (i0 : Buf (Elt F) ((sI).view.loc (VT d L)))
    (c0 : Buf (Elt F) ((sC).view.loc (VT d L))) (q0 : Buf (Elt F) ((sO).view.loc (VT d L))) (q1 : Buf (Elt F) ((sD).view.loc (VT d L)))
    (q2 : Buf (Elt F) ((sR).view.loc (VT d L))) (hI : ∀ i : S14080.Idx, ((I : Vec F S14080 .i32) i).toNat < 5072) :
    (iprop(Transfers.MayWaits (VT d L) (default : HIx 1) O
        ∗ ((x0V).view.loc (VT d L) ↦{tq (wid L)} X0) ∗ ((x1V).view.loc (VT d L) ↦{tq (wid L)} X1)
        ∗ ((iV).view.loc (VT d L) ↦{tq (wid L)} I) ∗ ((cV).view.loc (VT d L) ↦{tq (wid L)} C)
        ∗ ((o0K L).view.loc (VT d L) ↦[(o0K L).view.set]{fullShare} g0)
        ∗ ((o1K L).view.loc (VT d L) ↦[(o1K L).view.set]{fullShare} g1)
        ∗ ((o2K L).view.loc (VT d L) ↦[(o2K L).view.set]{fullShare} g2)
        ∗ ((sA).view.loc (VT d L) ↦{fullShare} a0) ∗ ((sB).view.loc (VT d L) ↦{fullShare} b0)
        ∗ ((sI).view.loc (VT d L) ↦{fullShare} i0) ∗ ((sC).view.loc (VT d L) ↦{fullShare} c0)
        ∗ ((sO).view.loc (VT d L) ↦{fullShare} q0) ∗ ((sD).view.loc (VT d L) ↦{fullShare} q1)
        ∗ ((sR).view.loc (VT d L) ↦{fullShare} q2)
        ∗ cells0 d L
        ∗ owes (VT d L) O W) : sProp 𝕄)
      ⊢ wp frame (wpE (defs₀ (F := F)) 𝒱₀ (VT d L) none) Set.univ
          (cc0__roi_sc L x0V (Memref.isWhole_whole _) x1V (Memref.isWhole_whole _) iV (Memref.isWhole_whole _) cV (Memref.isWhole_whole _)
            o0V (Memref.isWhole_whole _) o1V (Memref.isWhole_whole _) o2V (Memref.isWhole_whole _)
            sA (Memref.isWhole_whole _) sB (Memref.isWhole_whole _) sI (Memref.isWhole_whole _) sC (Memref.isWhole_whole _)
            sO (Memref.isWhole_whole _) sD (Memref.isWhole_whole _) sR (Memref.isWhole_whole _)
            cc0_scoped0 cc0_scoped1 cc0_scoped2 cc0_scoped3 cc0_scoped4 cc0_scoped5 cc0_scoped6)
          fun _ => iprop(((x0V).view.loc (VT d L) ↦{tq (wid L)} X0) ∗ ((x1V).view.loc (VT d L) ↦{tq (wid L)} X1)
            ∗ ((iV).view.loc (VT d L) ↦{tq (wid L)} I) ∗ ((cV).view.loc (VT d L) ↦{tq (wid L)} C)
            ∗ ((o0K L).view.loc (VT d L) ↦[(o0K L).view.set]{fullShare} (outCls X0 I : Vec F S112640 .f32))
            ∗ ((o1K L).view.loc (VT d L) ↦[(o1K L).view.set]{fullShare} (outDel X1 I : Vec F S450560 .f32))
            ∗ ((o2K L).view.loc (VT d L) ↦[(o2K L).view.set]{fullShare} (outRoi X1 I C : Vec F S450560 .f32))
            ∗ (∃ f, (sA).view.loc (VT d L) ↦{fullShare} f) ∗ (∃ f, (sB).view.loc (VT d L) ↦{fullShare} f)
            ∗ (∃ f, (sI).view.loc (VT d L) ↦{fullShare} f) ∗ (∃ f, (sC).view.loc (VT d L) ↦{fullShare} f)
            ∗ (∃ f, (sO).view.loc (VT d L) ↦{fullShare} f) ∗ (∃ f, (sD).view.loc (VT d L) ↦{fullShare} f)
            ∗ (∃ f, (sR).view.loc (VT d L) ↦{fullShare} f)
            ∗ cells0 d L
            ∗ ∃ W', owes (VT d L) O W') := by
  rw [cc0__roi_sc_eq_skeleton]; unfold cc0__roi_sc_skel
  rw [k0_part3_eq_skeleton, k0_part4_eq_skeleton]; unfold k0_part3_skel k0_part4_skel
  iintro ⟨#Hmw, HX0, HX1, HI, HC, HO0, HO1, HO2, HsA, HsB, HsI, HsC, HsO, HsD, HsR, ⟨Hc0, Hc1, Hc2, Hc3, Hc4, Hc5, Hc6⟩, HO⟩
  sl_exec (disch := first
    | exact View.amount_pos _ _ (show 0 < S5072x1.numel by decide)
    | exact View.amount_pos _ _ (show 0 < S5072x4.numel by decide)
    | exact View.amount_pos _ _ (show 0 < S3520.numel by decide)
    | exact View.amount_pos _ _ (show 0 < S14080.numel by decide))
  have eA : View.write (Elt F) (sA).view a0 (tile_run.sl.dma0 d L X0) Finset.univ = (tileA (wid L) X0 : Vec F S5072x1 .f32) := (View.write_whole_univ _ _ _).trans (read_x0K L X0)
  have eB : View.write (Elt F) (sB).view b0 (tile_run.sl.dma0_1 d L X1) Finset.univ = (tileB (wid L) X1 : Vec F S5072x4 .f32) := (View.write_whole_univ _ _ _).trans (read_x1K L X1)
  have eI : View.write (Elt F) (sI).view i0 (tile_run.sl.dma0_2 d L I) Finset.univ = (tileI (wid L) I : Vec F S3520 .i32) := (View.write_whole_univ _ _ _).trans (read_iK L I)
  have eC : View.write (Elt F) (sC).view c0 (tile_run.sl.dma0_3 d L C) Finset.univ = (tileC (wid L) C : Vec F S14080 .f32) := (View.write_whole_univ _ _ _).trans (read_cK L C)
  rw [eA, eB, eI, eC]
  rw [bind_assoc]
  sl_for (inv d L (tileA (wid L) X0) (tileB (wid L) X1) (tileI (wid L) I) (tileC (wid L) C)) $$ [HsA HsB HsI HsC HsO HsD HsR]
  case region =>
    intro k _
    exact trip d L _ _ _ _ (fun x => hI _) _ _ _ k
  · unfold inv
    isplitl [HsA]; · iexact HsA
    isplitl [HsB]; · iexact HsB
    isplitl [HsI]; · iexact HsI
    isplitl [HsC]; · iexact HsC
    isplitl [HsO]
    · iexists _; isplitr
      swap
      · iexact HsO
      · ipureintro; intro y hy; exact absurd hy (Nat.not_lt_zero _)
    isplitl [HsD]
    · iexists _; isplitr
      swap
      · iexact HsD
      · ipureintro; intro y hy; exact absurd hy (Nat.not_lt_zero _)
    · iexists _; isplitr
      swap
      · iexact HsR
      · ipureintro; intro y hy; exact absurd hy (Nat.not_lt_zero _)
  iintro %_ Hinv
  unfold inv
  icases Hinv with ⟨HsA, HsB, HsI, HsC, ⟨%f, %hf, HsO⟩, ⟨%g, %hg, HsD⟩, ⟨%r, %hr, HsR⟩⟩
  sl_exec
  have hn : Scf.trips k0_t1_loop.lb k0_t1_loop.ub k0_t1_loop.st = 220 := by decide
  have hf' : ∀ y, f y = clsT (tileA (wid L) X0) (tileI (wid L) I) y := fun y => hf y (by rw [hn]; exact (y 0).isLt)
  have hg' : ∀ y, g y = delT (tileB (wid L) X1) (tileI (wid L) I) y := fun y => hg y (by rw [hn]; exact (y 0).isLt)
  have hr' : ∀ y, r y = roiT (tileB (wid L) X1) (tileI (wid L) I) (tileC (wid L) C) y := fun y => hr y (by rw [hn]; exact (y 0).isLt)
  ihave HO0' := (Entails.of_eq (pointsTo_congr (out0_done L X0 I g0 f hf'))) $$ HO0
  ihave HO1' := (Entails.of_eq (pointsTo_congr (out1_done L X1 I g1 g hg'))) $$ HO1
  ihave HO2' := (Entails.of_eq (pointsTo_congr (out2_done L X1 I C g2 r hr'))) $$ HO2
  sl_step
  isplitl [HX0]; · iexact HX0
  isplitl [HX1]; · iexact HX1
  isplitl [HI]; · iexact HI
  isplitl [HC]; · iexact HC
  isplitl [HO0']; · iexact HO0'
  isplitl [HO1']; · iexact HO1'
  isplitl [HO2']; · iexact HO2'
  isplitl [HsA]; · iexists _; iexact HsA
  isplitl [HsB]; · iexists _; iexact HsB
  isplitl [HsI]; · iexists _; iexact HsI
  isplitl [HsC]; · iexists _; iexact HsC
  isplitl [HsO]; · iexists _; iexact HsO
  isplitl [HsD]; · iexists _; iexact HsD
  isplitl [HsR]; · iexists _; iexact HsR
  isplitl [Hc0 Hc1 Hc2 Hc3 Hc4 Hc5 Hc6]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hc6
  iexists _; iexact HO

end Tile
end Cert.Roi.KernelIdeal
-- ==== Proof.KernelIdealConsts.lean ====
/-
  A fact about the constant list of row numbers that the launch is given: every number lies inside the rows a tile has
  copied in.
-/
module

public import proofs.«01_k».proof.Proof.Gen.KernelIdeal

@[expose] public section

namespace Cert.Roi.KernelIdeal

open Cert.KernelIdeal

/-- Entry `n` lies inside a tile's rows. -/
abbrev Inside (n : Nat) : Prop := (lit0t n).toNat < 5072

/-- The same of six hundred and forty consecutive entries. -/
def InsidePiece (k : Nat) : Prop := ∀ a : Fin 5, ∀ b : Fin 128, Inside ((k * 5 + a.val) * 128 + b.val)

theorem inside_0 : InsidePiece 0 := by unfold InsidePiece; decide +kernel
theorem inside_1 : InsidePiece 1 := by unfold InsidePiece; decide +kernel
theorem inside_2 : InsidePiece 2 := by unfold InsidePiece; decide +kernel
theorem inside_3 : InsidePiece 3 := by unfold InsidePiece; decide +kernel
theorem inside_4 : InsidePiece 4 := by unfold InsidePiece; decide +kernel
theorem inside_5 : InsidePiece 5 := by unfold InsidePiece; decide +kernel
theorem inside_6 : InsidePiece 6 := by unfold InsidePiece; decide +kernel
theorem inside_7 : InsidePiece 7 := by unfold InsidePiece; decide +kernel
theorem inside_8 : InsidePiece 8 := by unfold InsidePiece; decide +kernel
theorem inside_9 : InsidePiece 9 := by unfold InsidePiece; decide +kernel
theorem inside_10 : InsidePiece 10 := by unfold InsidePiece; decide +kernel
theorem inside_11 : InsidePiece 11 := by unfold InsidePiece; decide +kernel
theorem inside_12 : InsidePiece 12 := by unfold InsidePiece; decide +kernel
theorem inside_13 : InsidePiece 13 := by unfold InsidePiece; decide +kernel
theorem inside_14 : InsidePiece 14 := by unfold InsidePiece; decide +kernel
theorem inside_15 : InsidePiece 15 := by unfold InsidePiece; decide +kernel
theorem inside_16 : InsidePiece 16 := by unfold InsidePiece; decide +kernel
theorem inside_17 : InsidePiece 17 := by unfold InsidePiece; decide +kernel
theorem inside_18 : InsidePiece 18 := by unfold InsidePiece; decide +kernel
theorem inside_19 : InsidePiece 19 := by unfold InsidePiece; decide +kernel
theorem inside_20 : InsidePiece 20 := by unfold InsidePiece; decide +kernel
theorem inside_21 : InsidePiece 21 := by unfold InsidePiece; decide +kernel

theorem inside_all : ∀ k : Nat, k < 22 → InsidePiece k
  | 0, _ => inside_0
  | 1, _ => inside_1
  | 2, _ => inside_2
  | 3, _ => inside_3
  | 4, _ => inside_4
  | 5, _ => inside_5
  | 6, _ => inside_6
  | 7, _ => inside_7
  | 8, _ => inside_8
  | 9, _ => inside_9
  | 10, _ => inside_10
  | 11, _ => inside_11
  | 12, _ => inside_12
  | 13, _ => inside_13
  | 14, _ => inside_14
  | 15, _ => inside_15
  | 16, _ => inside_16
  | 17, _ => inside_17
  | 18, _ => inside_18
  | 19, _ => inside_19
  | 20, _ => inside_20
  | 21, _ => inside_21
  | k + 22, h => absurd h (by omega)

theorem inside_at (n : Nat) (h : n < 14080) : Inside n := by
  have e : (n / 640 * 5 + n / 128 % 5) * 128 + n % 128 = n := by omega
  have := inside_all (n / 640) (by omega) ⟨n / 128 % 5, by omega⟩ ⟨n % 128, by omega⟩
  rw [e] at this; exact this

theorem lit0_lt (i : Fin 14080) : (lit0 i).toNat < 5072 := inside_at i.val i.isLt

end Cert.Roi.KernelIdeal
-- ==== Proof.KernelIdealLaunch.lean ====
/-
  The whole launch: the TensorCore fills the two constant arrays, hands each of the thirty-two tiles a read share of the
  four inputs and its part of the three results, gets them back with the parts at their values, and takes the padding
  off. Every weakly fair run ends, with the two arguments as they were, the three results at the functions below, and
  every semaphore at zero.
-/
module

public import proofs.«01_k».proof.Proof.KernelIdealTile
public import proofs.«01_k».proof.Proof.KernelIdealConsts

@[expose] public section

noncomputable section

namespace Cert.Roi.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ
local notation "x0V" => (Memref.whole Cert.KernelIdeal.main_arg0_scv : Memref Cert.KernelIdeal.sig Kind.scVector Space.hbm Cert.KernelIdeal.S8x20000x1 EltTy.f32)
local notation "x1V" => (Memref.whole Cert.KernelIdeal.main_arg1_scv : Memref Cert.KernelIdeal.sig Kind.scVector Space.hbm Cert.KernelIdeal.S8x20000x4 EltTy.f32)
local notation "iV" => (Memref.whole Cert.KernelIdeal.main_c_scv : Memref Cert.KernelIdeal.sig Kind.scVector Space.hbm Cert.KernelIdeal.S14080 EltTy.i32)
local notation "cV" => (Memref.whole Cert.KernelIdeal.main_cst_scv : Memref Cert.KernelIdeal.sig Kind.scVector Space.hbm Cert.KernelIdeal.S56320 EltTy.f32)
local notation "o0V" => (Memref.whole Cert.KernelIdeal.main_v0_0_scv : Memref Cert.KernelIdeal.sig Kind.scVector Space.hbm Cert.KernelIdeal.S112640 EltTy.f32)
local notation "o1V" => (Memref.whole Cert.KernelIdeal.main_v0_1_scv : Memref Cert.KernelIdeal.sig Kind.scVector Space.hbm Cert.KernelIdeal.S450560 EltTy.f32)
local notation "o2V" => (Memref.whole Cert.KernelIdeal.main_v0_2_scv : Memref Cert.KernelIdeal.sig Kind.scVector Space.hbm Cert.KernelIdeal.S450560 EltTy.f32)
local notation "sA" => (Memref.whole Cert.KernelIdeal.cc0_scratch0 : Memref Cert.KernelIdeal.sig Kind.scVector Space.vmem Cert.KernelIdeal.S5072x1 EltTy.f32)
local notation "sB" => (Memref.whole Cert.KernelIdeal.cc0_scratch1 : Memref Cert.KernelIdeal.sig Kind.scVector Space.vmem Cert.KernelIdeal.S5072x4 EltTy.f32)
local notation "sI" => (Memref.whole Cert.KernelIdeal.cc0_scratch2 : Memref Cert.KernelIdeal.sig Kind.scVector Space.vmem Cert.KernelIdeal.S3520 EltTy.i32)
local notation "sC" => (Memref.whole Cert.KernelIdeal.cc0_scratch3 : Memref Cert.KernelIdeal.sig Kind.scVector Space.vmem Cert.KernelIdeal.S14080 EltTy.f32)
local notation "sO" => (Memref.whole Cert.KernelIdeal.cc0_scratch4 : Memref Cert.KernelIdeal.sig Kind.scVector Space.vmem Cert.KernelIdeal.S3520 EltTy.f32)
local notation "sD" => (Memref.whole Cert.KernelIdeal.cc0_scratch5 : Memref Cert.KernelIdeal.sig Kind.scVector Space.vmem Cert.KernelIdeal.S14080 EltTy.f32)
local notation "sR" => (Memref.whole Cert.KernelIdeal.cc0_scratch6 : Memref Cert.KernelIdeal.sig Kind.scVector Space.vmem Cert.KernelIdeal.S14080 EltTy.f32)

variable (m : (ℓ : Loc nD τ sig) → Buf (Elt F) ℓ) (ρ : Dev nD → PrngReg)

/-! ## The arrays -/

abbrev x0Loc (d : Dev nD) : Loc nD τ sig := (SparseCore.T d).loc main_arg0
abbrev x1Loc (d : Dev nD) : Loc nD τ sig := (SparseCore.T d).loc main_arg1
abbrev iLoc (d : Dev nD) : Loc nD τ sig := (SparseCore.T d).loc main_c
abbrev cLoc (d : Dev nD) : Loc nD τ sig := (SparseCore.T d).loc main_cst
abbrev o0Loc (d : Dev nD) : Loc nD τ sig := (SparseCore.T d).loc main_v0_0
abbrev o1Loc (d : Dev nD) : Loc nD τ sig := (SparseCore.T d).loc main_v0_1
abbrev o2Loc (d : Dev nD) : Loc nD τ sig := (SparseCore.T d).loc main_v0_2

/-- The constant row numbers and anchors. -/
def rows : Vec F S14080 .i32 := fun i => lit0 (S14080.rowMajor i)
def anch : Vec F S56320 .f32 := fun i => FloatOps.ofBits .f32 (lit1 (S56320.rowMajor i))

omit [FloatOps F] in
theorem rows_lt (i : S14080.Idx) : ((rows : Vec F S14080 .i32) i).toNat < 5072 := lit0_lt _

/-! ## What the handshakes carry -/

/-- What tile `w` reads. -/
abbrev ins (d : Dev nD) (w : Fin 32) : sProp 𝕄 :=
  iprop((x0Loc d ↦{tq w.val} m (x0Loc d)) ∗ (x1Loc d ↦{tq w.val} m (x1Loc d))
    ∗ (iLoc d ↦{tq w.val} (rows : Vec F S14080 .i32)) ∗ (cLoc d ↦{tq w.val} (anch : Vec F S56320 .f32)))
/-- Tile `w`'s parts of the results. -/
abbrev outs (d : Dev nD) (w : Fin 32) (f0 : Buf (Elt F) (o0Loc d)) (f1 : Buf (Elt F) (o1Loc d)) (f2 : Buf (Elt F) (o2Loc d)) : sProp 𝕄 :=
  iprop((o0Loc d ↦[(part0 w).set]{fullShare} f0) ∗ (o1Loc d ↦[(part1 w).set]{fullShare} f1) ∗ (o2Loc d ↦[(part1 w).set]{fullShare} f2))

/-- The results of the launch. -/
abbrev res0 (d : Dev nD) : Buf (Elt F) (o0Loc d) := (outCls (m (x0Loc d)) rows : Vec F S112640 .f32)
abbrev res1 (d : Dev nD) : Buf (Elt F) (o1Loc d) := (outDel (m (x1Loc d)) rows : Vec F S450560 .f32)
abbrev res2 (d : Dev nD) : Buf (Elt F) (o2Loc d) := (outRoi (m (x1Loc d)) rows anch : Vec F S450560 .f32)

abbrev goP (d : Dev nD) (w : Fin 32) : sProp 𝕄 := iprop(ins m d w ∗ outs d w (m (o0Loc d)) (m (o1Loc d)) (m (o2Loc d)))
abbrev tdP (d : Dev nD) (w : Fin 32) : sProp 𝕄 := iprop(ins m d w ∗ outs d w (res0 m d) (res1 m d) (res2 m d))

/-- The number of the tile of SparseCore `c`, subcore `i`. -/
abbrev tileNo (c : Fin 2) (i : Fin 16) : Fin 32 := ⟨2 * i.val + c.val, by omega⟩

theorem nCore_zero : (K (F := F)).nCore 0 = 2 := rfl

abbrev tile (c : Fin ((K (F := F)).nCore 0)) (i : Fin ((K (F := F)).nSub 0)) : Fin 32 :=
  tileNo (Fin.cast nCore_zero c) (Fin.cast nSub_zero i)

def P : (K (F := F)).Pay (nD := nD) (Val := Elt F) (Name := ℕ) (U := UU) where
  st := fun q d c => match q with | 0 => bigSep Finset.univ fun i : Fin ((K (F := F)).nSub 0) => goP m d (tile c i)
  dn := fun q d c => match q with | 0 => bigSep Finset.univ fun i : Fin ((K (F := F)).nSub 0) => tdP m d (tile c i)
  go := fun q d c i => match q with | 0 => goP m d (tile c i)
  td := fun q d c i => match q with | 0 => tdP m d (tile c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goP m d (tile c i)))
  dn q d c := match q with
    | 0 => (inferInstance : BI.Storable (upEmb : UEmb _ 𝕄) (bigSep Finset.univ fun i : Fin ((K (F := F)).nSub 0) => tdP m d (tile c i)))
  go q d c i := match q with
    | 0 => (inferInstance : BI.Storable (upEmb : UEmb _ 𝕄) (goP m d (tile c i)))
  td q d c i := match q with
    | 0 => (inferInstance : BI.Storable (upEmb : UEmb _ 𝕄) (tdP m d (tile c i)))

/-! ## The task -/

section Tile

variable (d : Dev nD) (L : grid0.Coords)

abbrev dcell (d : Dev nD) (c : Fin τ.nSC) (i : Fin τ.nSub) (k : Fin 7) : GSem nD τ sig := (V d c i, .dma (csem k.val k.isLt))

omit [FloatOps F] in
theorem dcell_mem (c : Fin τ.nSC) (i : Fin τ.nSub) (k : Fin 7) : dcell d c i k ∈ ownCells (V d c i) :=
  mem_ownCells.mpr ⟨rfl, (show ∀ s : DmaSem sig, (SemLoc.dma s : SemLoc sig).isScoped .scVector = true by decide) _⟩

omit [FloatOps F] in
/-- The subcore's own counters at zero: the seven the task names, and the rest. -/
theorem ownSems0_V :
    (ownSems0 (VT d L) : sProp 𝕄)
      = iprop(cells0 d L
          ∗ bigSep ((ownCells (VT d L)) \ Finset.univ.image (dcell d (cT L) (jT L))) fun g => semVal g 0) := by
  unfold SparseCore.Cfg.ownSems0
  rw [SparseCore.bigSep_sdiff_split' (t := Finset.univ.image (dcell d (cT L) (jT L)))
      (Finset.image_subset_iff.mpr fun k _ => dcell_mem d (cT L) (jT L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- A subcore's scratch array, as the device's buffer. -/
abbrev dr (L : grid0.Coords) (r : Ref sig .scVector) : DevRef τ sig := (Proc.scVector (cT L) (jT L)).devRef r

omit [FloatOps F] in
theorem dr_ne {r r' : Ref sig .scVector} (h : r ≠ r') : dr L r ≠ dr L r' := fun e => h (Proc.devRef_injective _ e)

/-- The scratch arrays the task does not name. -/
abbrev restRefs (L : grid0.Coords) : Finset (DevRef τ sig) :=
  (((((((ownRefs (τ := τ) (.scVector (cT L) (jT L))).erase (dr L cc0_scratch0)).erase (dr L cc0_scratch1)).erase (dr L cc0_scratch2)).erase
    (dr L cc0_scratch3)).erase (dr L cc0_scratch4)).erase (dr L cc0_scratch5)).erase (dr L cc0_scratch6)

omit [FloatOps F] in
/-- The seven scratch arrays are among the subcore's own. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f) ∗ (∃ f, (VT d L).loc cc0_scratch5 ↦{fullShare} f)
          ∗ (∃ f, (VT d L).loc cc0_scratch6 ↦{fullShare} f)
          ∗ bigSep (restRefs L) fun b => iprop(∃ f, ((d, b) : Loc nD τ sig) ↦{fullShare} f)) := by
  have h0 : dr L cc0_scratch0 ∈ ownRefs (τ := τ) (.scVector (cT L) (jT L)) := SparseCore.Cfg.mem_ownRefs_of_owner (p := Proc.scVector (cT L) (jT L)) (b := dr L cc0_scratch0) rfl
  have h1 : dr L cc0_scratch1 ∈ ownRefs (τ := τ) (.scVector (cT L) (jT L)) := SparseCore.Cfg.mem_ownRefs_of_owner (p := Proc.scVector (cT L) (jT L)) (b := dr L cc0_scratch1) rfl
  have h2 : dr L cc0_scratch2 ∈ ownRefs (τ := τ) (.scVector (cT L) (jT L)) := SparseCore.Cfg.mem_ownRefs_of_owner (p := Proc.scVector (cT L) (jT L)) (b := dr L cc0_scratch2) rfl
  have h3 : dr L cc0_scratch3 ∈ ownRefs (τ := τ) (.scVector (cT L) (jT L)) := SparseCore.Cfg.mem_ownRefs_of_owner (p := Proc.scVector (cT L) (jT L)) (b := dr L cc0_scratch3) rfl
  have h4 : dr L cc0_scratch4 ∈ ownRefs (τ := τ) (.scVector (cT L) (jT L)) := SparseCore.Cfg.mem_ownRefs_of_owner (p := Proc.scVector (cT L) (jT L)) (b := dr L cc0_scratch4) rfl
  have h5 : dr L cc0_scratch5 ∈ ownRefs (τ := τ) (.scVector (cT L) (jT L)) := SparseCore.Cfg.mem_ownRefs_of_owner (p := Proc.scVector (cT L) (jT L)) (b := dr L cc0_scratch5) rfl
  have h6 : dr L cc0_scratch6 ∈ ownRefs (τ := τ) (.scVector (cT L) (jT L)) := SparseCore.Cfg.mem_ownRefs_of_owner (p := Proc.scVector (cT L) (jT L)) (b := dr L cc0_scratch6) rfl
  unfold SparseCore.Cfg.ownBufs
  refine (SparseCore.bigSep_erase' h0).trans ?_
  rw [SparseCore.bigSep_erase' (Finset.mem_erase.mpr ⟨dr_ne L (by decide), h1⟩),
    SparseCore.bigSep_erase' (Finset.mem_erase.mpr ⟨dr_ne L (by decide), Finset.mem_erase.mpr ⟨dr_ne L (by decide), h2⟩⟩),
    SparseCore.bigSep_erase' (Finset.mem_erase.mpr ⟨dr_ne L (by decide), Finset.mem_erase.mpr ⟨dr_ne L (by decide),
      Finset.mem_erase.mpr ⟨dr_ne L (by decide), h3⟩⟩⟩),
    SparseCore.bigSep_erase' (Finset.mem_erase.mpr ⟨dr_ne L (by decide), Finset.mem_erase.mpr ⟨dr_ne L (by decide),
      Finset.mem_erase.mpr ⟨dr_ne L (by decide), Finset.mem_erase.mpr ⟨dr_ne L (by decide), h4⟩⟩⟩⟩),
    SparseCore.bigSep_erase' (Finset.mem_erase.mpr ⟨dr_ne L (by decide), Finset.mem_erase.mpr ⟨dr_ne L (by decide),
      Finset.mem_erase.mpr ⟨dr_ne L (by decide), Finset.mem_erase.mpr ⟨dr_ne L (by decide), Finset.mem_erase.mpr ⟨dr_ne L (by decide), h5⟩⟩⟩⟩⟩),
    SparseCore.bigSep_erase' (Finset.mem_erase.mpr ⟨dr_ne L (by decide), Finset.mem_erase.mpr ⟨dr_ne L (by decide),
      Finset.mem_erase.mpr ⟨dr_ne L (by decide), Finset.mem_erase.mpr ⟨dr_ne L (by decide), Finset.mem_erase.mpr ⟨dr_ne L (by decide),
        Finset.mem_erase.mpr ⟨dr_ne L (by decide), h6⟩⟩⟩⟩⟩⟩)]

omit [FloatOps F] in
theorem pts_o0K (f : Buf (Elt F) (o0Loc d)) :
    ((o0K L).view.loc (VT d L) ↦[(o0K L).view.set]{fullShare} f : sProp 𝕄) = o0Loc d ↦[(part0 (widF L)).set]{fullShare} f := by
  rw [set_o0K]
omit [FloatOps F] in
theorem pts_o1K (f : Buf (Elt F) (o1Loc d)) :
    ((o1K L).view.loc (VT d L) ↦[(o1K L).view.set]{fullShare} f : sProp 𝕄) = o1Loc d ↦[(part1 (widF L)).set]{fullShare} f := by
  rw [set_o1K]
omit [FloatOps F] in
theorem pts_o2K (f : Buf (Elt F) (o2Loc d)) :
    ((o2K L).view.loc (VT d L) ↦[(o2K L).view.set]{fullShare} f : sProp 𝕄) = o2Loc d ↦[(part1 (widF L)).set]{fullShare} f := by
  rw [set_o2K]

/-- The task on vector subcore `(L 0, L 1)`, from what the launch deals it to what it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ goP m d (widF L) ∗ scopedBufs (VT d L) ∗ scopedSems0 (VT d L) ∗ owes (VT d L) O W)
      ⊢ wp frame (wpE (defs₀ (F := F)) 𝒱₀ (VT d L) none) Set.univ
          (cc0__roi_sc L x0V (Memref.isWhole_whole _) x1V (Memref.isWhole_whole _) iV (Memref.isWhole_whole _) cV (Memref.isWhole_whole _)
            o0V (Memref.isWhole_whole _) o1V (Memref.isWhole_whole _) o2V (Memref.isWhole_whole _)
            sA (Memref.isWhole_whole _) sB (Memref.isWhole_whole _) sI (Memref.isWhole_whole _) sC (Memref.isWhole_whole _)
            sO (Memref.isWhole_whole _) sD (Memref.isWhole_whole _) sR (Memref.isWhole_whole _)
            cc0_scoped0 cc0_scoped1 cc0_scoped2 cc0_scoped3 cc0_scoped4 cc0_scoped5 cc0_scoped6)
          fun _ => iprop(tdP m d (widF L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cT L) (jT L), SparseCore.Cfg.scopedSems0_V (Val := Elt F) d (cT L) (jT L), ownSems0_V, ownBufs_V]
  iintro ⟨#Hlv, -, ⟨⟨HX0, HX1, HI, HC⟩, HO0, HO1, HO2⟩, ⟨⟨%a0, HsA⟩, ⟨%b0, HsB⟩, ⟨%i0, HsI⟩, ⟨%c0, HsC⟩, ⟨%q0, HsO⟩, ⟨%q1, HsD⟩, ⟨%q2, HsR⟩, Hbufs⟩, ⟨Hcells, Hsems⟩, HO⟩
  ihave Hmw := (show levAts (K (F := F)).L (K (F := F)).lev ⊢ Transfers.MayWaits (VT d L) (default : HIx 1) O from
    (K (F := F)).mayWaits_none (thr := VT d L) hO) $$ Hlv
  ihave HO0' := (Entails.of_eq (pts_o0K (F := F) d L _).symm) $$ HO0
  ihave HO1' := (Entails.of_eq (pts_o1K (F := F) d L _).symm) $$ HO1
  ihave HO2' := (Entails.of_eq (pts_o2K (F := F) d L _).symm) $$ HO2
  iapply (wp_wand_r Idealize.ShloMosaic.frame (wpE (defs₀ (F := F)) 𝒱₀ (VT d L) none) Set.univ)
  isplitl [HX0 HX1 HI HC HO0' HO1' HO2' HsA HsB HsI HsC HsO HsD HsR Hcells HO]
  · iapply (tile_run d L O W (m (x0Loc d)) (m (x1Loc d)) (rows : Vec F S14080 .i32) (anch : Vec F S56320 .f32)
      (m (o0Loc d)) (m (o1Loc d)) (m (o2Loc d)) a0 b0 i0 c0 q0 q1 q2 rows_lt)
    isplitr; · iexact Hmw
    isplitl [HX0]; · iexact HX0
    isplitl [HX1]; · iexact HX1
    isplitl [HI]; · iexact HI
    isplitl [HC]; · iexact HC
    isplitl [HO0']; · iexact HO0'
    isplitl [HO1']; · iexact HO1'
    isplitl [HO2']; · iexact HO2'
    isplitl [HsA]; · iexact HsA
    isplitl [HsB]; · iexact HsB
    isplitl [HsI]; · iexact HsI
    isplitl [HsC]; · iexact HsC
    isplitl [HsO]; · iexact HsO
    isplitl [HsD]; · iexact HsD
    isplitl [HsR]; · iexact HsR
    isplitl [Hcells]; · iexact Hcells
    iexact HO
  iintro %_ ⟨HX0, HX1, HI, HC, HO0', HO1', HO2', HsA, HsB, HsI, HsC, HsO, HsD, HsR, Hcells, ⟨%W', HO⟩⟩
  isplitl [HX0 HX1 HI HC HO0' HO1' HO2']
  · isplitl [HX0 HX1 HI HC]
    · isplitl [HX0]; · iexact HX0
      isplitl [HX1]; · iexact HX1
      isplitl [HI]; · iexact HI
      iexact HC
    · isplitl [HO0']; · iapply (Entails.of_eq (pts_o0K (F := F) d L _)); iexact HO0'
      isplitl [HO1']; · iapply (Entails.of_eq (pts_o1K (F := F) d L _)); iexact HO1'
      iapply (Entails.of_eq (pts_o2K (F := F) d L _)); iexact HO2'
  isplitl [HsA HsB HsI HsC HsO HsD HsR Hbufs]
  · isplitl [HsA]; · iexact HsA
    isplitl [HsB]; · iexact HsB
    isplitl [HsI]; · iexact HsI
    isplitl [HsC]; · iexact HsC
    isplitl [HsO]; · iexact HsO
    isplitl [HsD]; · iexact HsD
    isplitl [HsR]; · iexact HsR
    iexact Hbufs
  isplitl [Hcells Hsems]
  · isplitl [Hcells]; · iexact Hcells
    iexact Hsems
  iexists W'; isplitr
  · ipureintro; intro p _
    rcases p.2 with _ | q
    · exact .inr (.inl rfl)
    · exact .inr (.inr (congrArg some (Subsingleton.elim q 0)))
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__roi_sc (coordsV c s)
          x0V (Memref.isWhole_whole _) x1V (Memref.isWhole_whole _) iV (Memref.isWhole_whole _) cV (Memref.isWhole_whole _)
          o0V (Memref.isWhole_whole _) o1V (Memref.isWhole_whole _) o2V (Memref.isWhole_whole _)
          sA (Memref.isWhole_whole _) sB (Memref.isWhole_whole _) sI (Memref.isWhole_whole _) sC (Memref.isWhole_whole _)
          sO (Memref.isWhole_whole _) sD (Memref.isWhole_whole _) sR (Memref.isWhole_whole _)
          cc0_scoped0 cc0_scoped1 cc0_scoped2 cc0_scoped3 cc0_scoped4 cc0_scoped5 cc0_scoped6) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Tile

theorem vecSplit : (K (F := F)).VecSplit' (P m) 0 := by
  intro d c
  show iprop(bigSep Finset.univ fun i : Fin ((K (F := F)).nSub 0) => goP m d (tile c i)) ⊢ |={Set.univ}=> iprop(
      (bigSep Finset.univ fun i : Fin ((K (F := F)).nSub 0) => goP m d (tile c i))
      ∗ ((bigSep Finset.univ fun i : Fin ((K (F := F)).nSub 0) => tdP m d (tile c i))
          -∗ bigSep Finset.univ fun i : Fin ((K (F := F)).nSub 0) => tdP m d (tile c i)))
  iintro H; imodintro
  isplitl [H]; · iexact H
  iintro H; iexact H

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The thirty-two tiles -/

/-- The tiles, by SparseCore and subcore. -/
def tilesE : Fin 2 × Fin 16 ≃ Fin 32 where
  toFun p := tileNo p.1 p.2
  invFun w := (⟨w.val % 2, by omega⟩, ⟨w.val / 2, by omega⟩)
  left_inv p := by
    have h1 := p.1.isLt; have h2 := p.2.isLt
    refine Prod.ext (Fin.ext ?_) (Fin.ext ?_)
    · show (2 * p.2.val + p.1.val) % 2 = p.1.val; omega
    · show (2 * p.2.val + p.1.val) / 2 = p.2.val; omega
  right_inv w := by
    apply Fin.ext; show 2 * (w.val / 2) + w.val % 2 = w.val; omega

theorem tiles_eq (Φ : Fin 32 → sProp 𝕄) :
    (bigSep Finset.univ fun c : Fin ((K (F := F)).nCore 0) => bigSep Finset.univ fun i : Fin ((K (F := F)).nSub 0) => Φ (tile c i)) = bigSep Finset.univ Φ := by
  rw [bigSep_univ_equiv tilesE Φ, BI.bigSep_univ_prod]
  rfl

omit [FloatOps F] in
theorem o0_parts (d : Dev nD) (f : Buf (Elt F) (o0Loc d)) :
    (o0Loc d ↦{fullShare} f : sProp 𝕄) = bigSep Finset.univ fun w : Fin 32 => o0Loc d ↦[(part0 w).set]{fullShare} f := by
  rw [← pointsTo_biUnion Finset.univ (ℓ := o0Loc d) (fun w : Fin 32 => (part0 w).set) (fun i _ j _ h => Rect.part_disjoint div0 h), Rect.biUnion_part div0]; try rfl
omit [FloatOps F] in
theorem o1_parts (d : Dev nD) (f : Buf (Elt F) (o1Loc d)) :
    (o1Loc d ↦{fullShare} f : sProp 𝕄) = bigSep Finset.univ fun w : Fin 32 => o1Loc d ↦[(part1 w).set]{fullShare} f := by
  rw [← pointsTo_biUnion Finset.univ (ℓ := o1Loc d) (fun w : Fin 32 => (part1 w).set) (fun i _ j _ h => Rect.part_disjoint div1 h), Rect.biUnion_part div1]; try rfl
omit [FloatOps F] in
theorem o2_parts (d : Dev nD) (f : Buf (Elt F) (o2Loc d)) :
    (o2Loc d ↦{fullShare} f : sProp 𝕄) = bigSep Finset.univ fun w : Fin 32 => o2Loc d ↦[(part1 w).set]{fullShare} f := by
  rw [← pointsTo_biUnion Finset.univ (ℓ := o2Loc d) (fun w : Fin 32 => (part1 w).set) (fun i _ j _ h => Rect.part_disjoint div1 h), Rect.biUnion_part div1]; try rfl

/-- The seven arrays of the launch, whole, at given contents of the results. -/
abbrev arrays (d : Dev nD) (f0 : Buf (Elt F) (o0Loc d)) (f1 : Buf (Elt F) (o1Loc d)) (f2 : Buf (Elt F) (o2Loc d)) : sProp 𝕄 :=
  iprop((x0Loc d ↦{fullShare} m (x0Loc d)) ∗ (x1Loc d ↦{fullShare} m (x1Loc d))
    ∗ (iLoc d ↦{fullShare} (rows : Vec F S14080 .i32)) ∗ (cLoc d ↦{fullShare} (anch : Vec F S56320 .f32))
    ∗ (o0Loc d ↦{fullShare} f0) ∗ (o1Loc d ↦{fullShare} f1) ∗ (o2Loc d ↦{fullShare} f2))

/-- What of the inputs no tile takes. -/
abbrev kept (d : Dev nD) : sProp 𝕄 :=
  iprop((x0Loc d ↦{Transfers.shareDrop fullShare 32} m (x0Loc d)) ∗ (x1Loc d ↦{Transfers.shareDrop fullShare 32} m (x1Loc d))
    ∗ (iLoc d ↦{Transfers.shareDrop fullShare 32} (rows : Vec F S14080 .i32)) ∗ (cLoc d ↦{Transfers.shareDrop fullShare 32} (anch : Vec F S56320 .f32)))

omit [FloatOps F] in
theorem toks {ℓ : Loc nD τ sig} (f : Buf (Elt F) ℓ) :
    (ℓ ↦{fullShare} f : sProp 𝕄) ⊣⊢ iprop((ℓ ↦{Transfers.shareDrop fullShare 32} f) ∗ bigSep Finset.univ fun w : Fin 32 => ℓ ↦{tq w.val} f) :=
  Transfers.pointsTo_toks (ℓ := ℓ) (S := Finset.univ) (f := f) fullShare 32

theorem deal (d : Dev nD) (f0 : Buf (Elt F) (o0Loc d)) (f1 : Buf (Elt F) (o1Loc d)) (f2 : Buf (Elt F) (o2Loc d)) :
    arrays m d f0 f1 f2 ⊢ (iprop(kept m d ∗ bigSep Finset.univ fun w : Fin 32 => iprop(ins m d w ∗ outs d w f0 f1 f2)) : sProp 𝕄) := by
  rw [bigSep_sep', bigSep_sep', bigSep_sep', bigSep_sep', bigSep_sep', bigSep_sep', ← o0_parts, ← o1_parts, ← o2_parts]
  iintro ⟨H0, H1, H2, H3, H4, H5, H6⟩
  ihave H0' := (toks _).1 $$ H0
  ihave H1' := (toks _).1 $$ H1
  ihave H2' := (toks _).1 $$ H2
  ihave H3' := (toks _).1 $$ H3
  icases H0' with ⟨K0, T0⟩
  icases H1' with ⟨K1, T1⟩
  icases H2' with ⟨K2, T2⟩
  icases H3' with ⟨K3, T3⟩
  isplitl [K0 K1 K2 K3]
  · isplitl [K0]; · iexact K0
    isplitl [K1]; · iexact K1
    isplitl [K2]; · iexact K2
    iexact K3
  isplitl [T0 T1 T2 T3]
  · isplitl [T0]; · iexact T0
    isplitl [T1]; · iexact T1
    isplitl [T2]; · iexact T2
    iexact T3
  isplitl [H4]; · iexact H4
  isplitl [H5]; · iexact H5
  iexact H6

theorem rejoin (d : Dev nD) (f0 : Buf (Elt F) (o0Loc d)) (f1 : Buf (Elt F) (o1Loc d)) (f2 : Buf (Elt F) (o2Loc d)) :
    (iprop(kept m d ∗ bigSep Finset.univ fun w : Fin 32 => iprop(ins m d w ∗ outs d w f0 f1 f2)) : sProp 𝕄) ⊢ arrays m d f0 f1 f2 := by
  rw [bigSep_sep', bigSep_sep', bigSep_sep', bigSep_sep', bigSep_sep', bigSep_sep', ← o0_parts, ← o1_parts, ← o2_parts]
  iintro ⟨⟨K0, K1, K2, K3⟩, ⟨T0, T1, T2, T3⟩, H4, H5, H6⟩
  isplitl [K0 T0]
  · iapply (toks _).2; isplitl [K0] <;> iassumption
  isplitl [K1 T1]
  · iapply (toks _).2; isplitl [K1] <;> iassumption
  isplitl [K2 T2]
  · iapply (toks _).2; isplitl [K2] <;> iassumption
  isplitl [K3 T3]
  · iapply (toks _).2; isplitl [K3] <;> iassumption
  isplitl [H4]; · iexact H4
  isplitl [H5]; · iexact H5
  iexact H6

end Cert.Roi.KernelIdeal

end
-- ==== Proof.KernelIdealMain.lean ====
/-
  The TensorCore's program around the launch, and what a run of the whole program leaves.
-/
module

public import proofs.«01_k».proof.Proof.KernelIdealLaunch

@[expose] public section

noncomputable section

namespace Cert.Roi.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays of the program, and its operations -/

abbrev b_arg0 : DevRef τ sig := Proc.devRef .tc (main_arg0 : Ref sig .tc)
abbrev b_arg1 : DevRef τ sig := Proc.devRef .tc (main_arg1 : Ref sig .tc)
abbrev b_c : DevRef τ sig := Proc.devRef .tc (main_c : Ref sig .tc)
abbrev b_cst : DevRef τ sig := Proc.devRef .tc (main_cst : Ref sig .tc)
abbrev b_v0_0 : DevRef τ sig := Proc.devRef .tc (main_v0_0 : Ref sig .tc)
abbrev b_v0_1 : DevRef τ sig := Proc.devRef .tc (main_v0_1 : Ref sig .tc)
abbrev b_v0_2 : DevRef τ sig := Proc.devRef .tc (main_v0_2 : Ref sig .tc)
abbrev b_v1 : DevRef τ sig := Proc.devRef .tc (main_v1 : Ref sig .tc)
abbrev b_v2 : DevRef τ sig := Proc.devRef .tc (main_v2 : Ref sig .tc)
abbrev b_v3 : DevRef τ sig := Proc.devRef .tc (main_v3 : Ref sig .tc)
abbrev b_v4 : DevRef τ sig := Proc.devRef .tc (main_v4 : Ref sig .tc)
abbrev b_v5 : DevRef τ sig := Proc.devRef .tc (main_v5 : Ref sig .tc)
abbrev b_v6 : DevRef τ sig := Proc.devRef .tc (main_v6 : Ref sig .tc)
abbrev b_v7 : DevRef τ sig := Proc.devRef .tc (main_v7 : Ref sig .tc)

abbrev S14 : Finset (DevRef τ sig) := {b_arg0, b_arg1, b_c, b_cst, b_v0_0, b_v0_1, b_v0_2, b_v1, b_v2, b_v3, b_v4, b_v5, b_v6, b_v7}
/-- The arrays of the launch. -/
abbrev S7 : Finset (DevRef τ sig) := {b_arg0, b_arg1, b_c, b_cst, b_v0_0, b_v0_1, b_v0_2}

abbrev opC : HloOp τ sig (Elt F) := StableHlo.nullary main_c (fun i => lit0 (S14080.rowMajor i))
abbrev opA : HloOp τ sig (Elt F) := StableHlo.nullary main_cst (fun i => FloatOps.ofBits .f32 (lit1 (S56320.rowMajor i)))
abbrev op1 : HloOp τ sig (Elt F) := StableHlo.reshape main_v0_0 main_v1 (rfl : (.f32 : EltTy) = .f32) shapeCasts_S112640_S8x14080
abbrev op2 : HloOp τ sig (Elt F) := StableHlo.unary main_v1 main_v2 ((extractStridedSlice S8x14040 ![0, 0] · slices_S8x14080_S8x14040_0_0) : (⟨S8x14080, .f32⟩ : BufTy).Contents (Elt F) → (⟨S8x14040, .f32⟩ : BufTy).Contents (Elt F))
abbrev op3 : HloOp τ sig (Elt F) := StableHlo.unary main_v2 main_v3 (broadcastInDim S8x14040x1 ![0, 1] bcast_S8x14040_S8x14040x1_0_1 : (⟨S8x14040, .f32⟩ : BufTy).Contents (Elt F) → (⟨S8x14040x1, .f32⟩ : BufTy).Contents (Elt F))
abbrev op4 : HloOp τ sig (Elt F) := StableHlo.reshape main_v0_1 main_v4 (rfl : (.f32 : EltTy) = .f32) shapeCasts_S450560_S8x14080x4
abbrev op5 : HloOp τ sig (Elt F) := StableHlo.unary main_v4 main_v5 ((extractStridedSlice S8x14040x4 ![0, 0, 0] · slices_S8x14080x4_S8x14040x4_0_0_0) : (⟨S8x14080x4, .f32⟩ : BufTy).Contents (Elt F) → (⟨S8x14040x4, .f32⟩ : BufTy).Contents (Elt F))
abbrev op6 : HloOp τ sig (Elt F) := StableHlo.reshape main_v0_2 main_v6 (rfl : (.f32 : EltTy) = .f32) shapeCasts_S450560_S8x14080x4
abbrev op7 : HloOp τ sig (Elt F) := StableHlo.unary main_v6 main_v7 ((extractStridedSlice S8x14040x4 ![0, 0, 0] · slices_S8x14080x4_S8x14040x4_0_0_0) : (⟨S8x14080x4, .f32⟩ : BufTy).Contents (Elt F) → (⟨S8x14040x4, .f32⟩ : BufTy).Contents (Elt F))

theorem opC_sub : (opC (F := F)).bufs ⊆ S14 := show ({b_c} : Finset (DevRef τ sig)) ⊆ S14 by decide
theorem opA_sub : (opA (F := F)).bufs ⊆ S14 := show ({b_cst} : Finset (DevRef τ sig)) ⊆ S14 by decide
theorem op1_sub : (op1 (F := F)).bufs ⊆ S14 := show ({b_v0_0, b_v1} : Finset (DevRef τ sig)) ⊆ S14 by decide
theorem op2_sub : (op2 (F := F)).bufs ⊆ S14 := show ({b_v1, b_v2} : Finset (DevRef τ sig)) ⊆ S14 by decide
theorem op3_sub : (op3 (F := F)).bufs ⊆ S14 := show ({b_v2, b_v3} : Finset (DevRef τ sig)) ⊆ S14 by decide
theorem op4_sub : (op4 (F := F)).bufs ⊆ S14 := show ({b_v0_1, b_v4} : Finset (DevRef τ sig)) ⊆ S14 by decide
theorem op5_sub : (op5 (F := F)).bufs ⊆ S14 := show ({b_v4, b_v5} : Finset (DevRef τ sig)) ⊆ S14 by decide
theorem op6_sub : (op6 (F := F)).bufs ⊆ S14 := show ({b_v0_2, b_v6} : Finset (DevRef τ sig)) ⊆ S14 by decide
theorem op7_sub : (op7 (F := F)).bufs ⊆ S14 := show ({b_v6, b_v7} : Finset (DevRef τ sig)) ⊆ S14 by decide

/-- The scores with the padding off; the regressions and the boxes likewise. -/
def unpad1 (f : Vec F S112640 .f32) : Vec F S8x14040x1 .f32 :=
  broadcastInDim S8x14040x1 ![0, 1] bcast_S8x14040_S8x14040x1_0_1
    (extractStridedSlice S8x14040 ![0, 0] (shapeCast S8x14080 f shapeCasts_S112640_S8x14080) slices_S8x14080_S8x14040_0_0)
def unpad4 (f : Vec F S450560 .f32) : Vec F S8x14040x4 .f32 :=
  extractStridedSlice S8x14040x4 ![0, 0, 0] (shapeCast S8x14080x4 f shapeCasts_S450560_S8x14080x4) slices_S8x14080x4_S8x14040x4_0_0_0

omit [FloatOps F] in
theorem held_S7 (d : Dev nD) (W : Valuation τ sig (Elt F)) :
    (held (T d) S7 W : sProp 𝕄) = iprop((x0Loc d ↦{fullShare} W b_arg0) ∗ (x1Loc d ↦{fullShare} W b_arg1) ∗ (iLoc d ↦{fullShare} W b_c)
      ∗ (cLoc d ↦{fullShare} W b_cst) ∗ (o0Loc d ↦{fullShare} W b_v0_0) ∗ (o1Loc d ↦{fullShare} W b_v0_1) ∗ (o2Loc d ↦{fullShare} W b_v0_2)) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch contents. -/
def V0 (d : Dev nD) : Valuation τ sig (Elt F) := fun b => m (d, b)
/-- With the constants filled in. -/
def V2 (d : Dev nD) : Valuation τ sig (Elt F) := (opA (F := F)).result ((opC (F := F)).result (V0 m d))
/-- After the call. -/
def V3 (d : Dev nD) : Valuation τ sig (Elt F) :=
  Function.update (Function.update (Function.update (V2 m d) b_v0_0 (res0 m d)) b_v0_1 (res1 m d)) b_v0_2 (res2 m d)
/-- At the end. -/
def V4 (d : Dev nD) : Valuation τ sig (Elt F) :=
  (op7 (F := F)).result ((op6 (F := F)).result ((op5 (F := F)).result ((op4 (F := F)).result ((op3 (F := F)).result ((op2 (F := F)).result
    ((op1 (F := F)).result (V3 m d)))))))

theorem unscoped_held (d : Dev nD) : (unscopedBufs d (fun b => m ((SparseCore.T d).loc b)) : sProp 𝕄) = held (T d) S14 (V0 m d) := by
  unfold unscopedBufs held S14
  rw [show (Finset.univ.filter fun b : Ref sig .tc => ¬ b.isScoped) = {main_arg0, main_arg1, main_c, main_cst, main_v0_0, main_v0_1, main_v0_2, main_v1, main_v2, main_v3, main_v4, main_v5, main_v6, main_v7} by decide]
  iterate 13 rw [SparseCore.bigSep_insert' (by decide)]
  iterate 13 rw [SparseCore.bigSep_insert' (by decide)]
  rw [bigSep_singleton, bigSep_singleton]
  rfl

theorem V2_arg0 (d : Dev nD) : V2 m d b_arg0 = m (x0Loc d) := by
  unfold V2 opA opC
  simp (discharger := decide) only [StableHlo.nullary_result_ne', StableHlo.nullary_result']
  rfl
theorem V2_arg1 (d : Dev nD) : V2 m d b_arg1 = m (x1Loc d) := by
  unfold V2 opA opC
  simp (discharger := decide) only [StableHlo.nullary_result_ne', StableHlo.nullary_result']
  rfl
theorem V2_c (d : Dev nD) : V2 m d b_c = (rows : Vec F S14080 .i32) := by
  unfold V2 opA opC
  simp (discharger := decide) only [StableHlo.nullary_result_ne', StableHlo.nullary_result']
  rfl
theorem V2_cst (d : Dev nD) : V2 m d b_cst = (anch : Vec F S56320 .f32) := by
  unfold V2 opA opC
  simp (discharger := decide) only [StableHlo.nullary_result_ne', StableHlo.nullary_result']
  rfl
theorem V2_v0_0 (d : Dev nD) : V2 m d b_v0_0 = m (o0Loc d) := by
  unfold V2 opA opC
  simp (discharger := decide) only [StableHlo.nullary_result_ne', StableHlo.nullary_result']
  rfl
theorem V2_v0_1 (d : Dev nD) : V2 m d b_v0_1 = m (o1Loc d) := by
  unfold V2 opA opC
  simp (discharger := decide) only [StableHlo.nullary_result_ne', StableHlo.nullary_result']
  rfl
theorem V2_v0_2 (d : Dev nD) : V2 m d b_v0_2 = m (o2Loc d) := by
  unfold V2 opA opC
  simp (discharger := decide) only [StableHlo.nullary_result_ne', StableHlo.nullary_result']
  rfl

theorem V3_of_ne (d : Dev nD) {x : DevRef τ sig} (h0 : x ≠ b_v0_0) (h1 : x ≠ b_v0_1) (h2 : x ≠ b_v0_2) : V3 m d x = V2 m d x := by
  unfold V3
  rw [Function.update_of_ne h2, Function.update_of_ne h1, Function.update_of_ne h0]
theorem V3_v0_0 (d : Dev nD) : V3 m d b_v0_0 = res0 m d := by
  unfold V3
  rw [Function.update_of_ne (by decide), Function.update_of_ne (by decide), Function.update_self]
theorem V3_v0_1 (d : Dev nD) : V3 m d b_v0_1 = res1 m d := by
  unfold V3
  rw [Function.update_of_ne (by decide), Function.update_self]
theorem V3_v0_2 (d : Dev nD) : V3 m d b_v0_2 = res2 m d := by
  unfold V3
  rw [Function.update_self]

theorem held_V2 (d : Dev nD) : (held (T d) S14 (V2 m d) : sProp 𝕄)
    = iprop(arrays m d (m (o0Loc d)) (m (o1Loc d)) (m (o2Loc d)) ∗ held (T d) (S14 \ S7) (V2 m d)) := by
  rw [StableHlo.held_sub_split (T d) (show S7 ⊆ S14 by decide), held_S7, V2_arg0, V2_arg1, V2_c, V2_cst, V2_v0_0, V2_v0_1, V2_v0_2]

theorem held_V3 (d : Dev nD) : (held (T d) S14 (V3 m d) : sProp 𝕄)
    = iprop(arrays m d (res0 m d) (res1 m d) (res2 m d) ∗ held (T d) (S14 \ S7) (V2 m d)) := by
  rw [StableHlo.held_sub_split (T d) (show S7 ⊆ S14 by decide), held_S7, V3_of_ne m d (by decide) (by decide) (by decide),
    V3_of_ne m d (x := b_arg1) (by decide) (by decide) (by decide), V3_of_ne m d (x := b_c) (by decide) (by decide) (by decide),
    V3_of_ne m d (x := b_cst) (by decide) (by decide) (by decide), V3_v0_0, V3_v0_1, V3_v0_2, V2_arg0, V2_arg1, V2_c, V2_cst,
    StableHlo.held_congr (T d) (S := S14 \ S7) (V := V3 m d) (V' := V2 m d) fun x hx => V3_of_ne m d
      (fun e => by subst e; exact absurd hx (by decide)) (fun e => by subst e; exact absurd hx (by decide)) (fun e => by subst e; exact absurd hx (by decide))]

/-! ## What the program leaves -/

theorem V4_arg0 (d : Dev nD) : V4 m d b_arg0 = m (x0Loc d) := by
  unfold V4 op1 op2 op3 op4 op5 op6 op7
  simp (discharger := decide) only [StableHlo.unary_result_ne', StableHlo.reshape_result_ne']
  rw [V3_of_ne m d (by decide) (by decide) (by decide), V2_arg0]
theorem V4_arg1 (d : Dev nD) : V4 m d b_arg1 = m (x1Loc d) := by
  unfold V4 op1 op2 op3 op4 op5 op6 op7
  simp (discharger := decide) only [StableHlo.unary_result_ne', StableHlo.reshape_result_ne']
  rw [V3_of_ne m d (by decide) (by decide) (by decide), V2_arg1]
theorem V4_v3 (d : Dev nD) : V4 m d b_v3 = unpad1 (res0 m d) := by
  unfold V4 op1 op2 op3 op4 op5 op6 op7
  simp (discharger := decide) only [StableHlo.unary_result_ne', StableHlo.reshape_result_ne', StableHlo.unary_result', StableHlo.reshape_result']
  rw [V3_v0_0]
  rfl
theorem V4_v5 (d : Dev nD) : V4 m d b_v5 = unpad4 (res1 m d) := by
  unfold V4 op1 op2 op3 op4 op5 op6 op7
  simp (discharger := decide) only [StableHlo.unary_result_ne', StableHlo.reshape_result_ne', StableHlo.unary_result', StableHlo.reshape_result']
  rw [V3_v0_1]
  rfl
theorem V4_v7 (d : Dev nD) : V4 m d b_v7 = unpad4 (res2 m d) := by
  unfold V4 op1 op2 op3 op4 op5 op6 op7
  simp (discharger := decide) only [StableHlo.unary_result_ne', StableHlo.reshape_result_ne', StableHlo.unary_result', StableHlo.reshape_result']
  rw [V3_v0_2]
  rfl

abbrev r0Loc (d : Dev nD) : Loc nD τ sig := (SparseCore.T d).loc main_v3
abbrev r1Loc (d : Dev nD) : Loc nD τ sig := (SparseCore.T d).loc main_v5
abbrev r2Loc (d : Dev nD) : Loc nD τ sig := (SparseCore.T d).loc main_v7

/-- What the program leaves the claim: the arguments as they were, the results. -/
abbrev FIN (d : Dev nD) : sProp 𝕄 :=
  iprop((x0Loc d ↦{fullShare} m (x0Loc d)) ∗ (x1Loc d ↦{fullShare} m (x1Loc d))
    ∗ (r0Loc d ↦{fullShare} (unpad1 (res0 m d) : Vec F S8x14040x1 .f32)) ∗ (r1Loc d ↦{fullShare} (unpad4 (res1 m d) : Vec F S8x14040x4 .f32))
    ∗ (r2Loc d ↦{fullShare} (unpad4 (res2 m d) : Vec F S8x14040x4 .f32)))

abbrev S5 : Finset (DevRef τ sig) := {b_arg0, b_arg1, b_v3, b_v5, b_v7}

theorem held_V4 (d : Dev nD) : (held (T d) S14 (V4 m d) : sProp 𝕄) ⊢ FIN m d := by
  rw [StableHlo.held_sub_split (T d) (show S5 ⊆ S14 by decide)]
  refine sep_elim_left.trans (Entails.of_eq ?_)
  unfold held S5
  rw [SparseCore.bigSep_insert' (by decide), SparseCore.bigSep_insert' (by decide), SparseCore.bigSep_insert' (by decide),
    SparseCore.bigSep_insert' (by decide), bigSep_singleton, V4_arg0, V4_arg1, V4_v3, V4_v5, V4_v7]

theorem st0_eq (d : Dev nD) : (bigSep Finset.univ fun c : Fin ((K (F := F)).nCore 0) => (P m).st 0 d c) = bigSep Finset.univ fun w : Fin 32 => goP m d w :=
  tiles_eq (fun w => goP m d w)
theorem dn0_eq (d : Dev nD) : (bigSep Finset.univ fun c : Fin ((K (F := F)).nCore 0) => (P m).dn 0 d c) = bigSep Finset.univ fun w : Fin 32 => tdP m d w :=
  tiles_eq (fun w => tdP m d w)

/-- The TensorCore's program on device `d`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opC) (S := S14) opC_sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opA) (S := S14) opA_sub (V := (opC (F := F)).result (V0 m d))) $$ [Hb Hheld]
  · isplitl [Hb]; · iexact Hb
    iexact Hheld
  iintro ⟨Hb, Hheld⟩
  rw [wp_ret]; imodintro
  ihave Hh := (Entails.of_eq ((congrArg (fun V => (held (T d) S14 V : sProp 𝕄)) (rfl : (opA (F := F)).result ((opC (F := F)).result (V0 m d)) = V2 m d)).trans (held_V2 m d))) $$ Hheld
  icases Hh with ⟨Harr, Hrest⟩
  ihave Hd := (deal m d _ _ _) $$ Harr
  icases Hd with ⟨Hkept, Hgo⟩
  iapply ((K (F := F)).wp_run (D (F := F)) 𝒱 (EH := EH) (P := P m) κ d 0) $$ [Hst Hgo Hkept Hrest Hb Hts]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Harr := (rejoin m d (res0 m d) (res1 m d) (res2 m d)) $$ [Hkept Hdn']
  · isplitl [Hkept]; · iexact Hkept
    iexact Hdn'
  ihave Hheld := (Entails.of_eq (held_V3 m d).symm) $$ [Harr Hrest]
  · isplitl [Harr]; · iexact Harr
    iexact Hrest
  iapply (wp_hlo_within 𝒱 (SparseCore.T d) none Set.univ (op := op1) (S := S14) op1_sub (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S14) op2_sub (V := (op1 (F := F)).result (V3 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S14) op3_sub (V := (op2 (F := F)).result ((op1 (F := F)).result (V3 m d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S14) op4_sub (V := (op3 (F := F)).result ((op2 (F := F)).result ((op1 (F := F)).result (V3 m d))))) $$ [Hb Hheld]
  · isplitl [Hb]; · iexact Hb
    iexact Hheld
  iintro ⟨Hb, Hheld⟩
  rw [wp_ret]; imodintro
  iapply (wp_hlo_within 𝒱 (SparseCore.T d) none Set.univ (op := op5) (S := S14) op5_sub (V := (op4 (F := F)).result ((op3 (F := F)).result ((op2 (F := F)).result ((op1 (F := F)).result (V3 m d)))))) $$ [Hb Hheld]
  · isplitl [Hb]; · iexact Hb
    iexact Hheld
  iintro ⟨Hb, Hheld⟩
  rw [wp_ret]; imodintro
  iapply (wp_hlo_within 𝒱 (SparseCore.T d) none Set.univ (op := op6) (S := S14) op6_sub (V := (op5 (F := F)).result ((op4 (F := F)).result ((op3 (F := F)).result ((op2 (F := F)).result ((op1 (F := F)).result (V3 m d))))))) $$ [Hb Hheld]
  · isplitl [Hb]; · iexact Hb
    iexact Hheld
  iintro ⟨Hb, Hheld⟩
  rw [wp_ret]; imodintro
  iapply (wp_hlo_within 𝒱 (SparseCore.T d) none Set.univ (op := op7) (S := S14) op7_sub (V := (op6 (F := F)).result ((op5 (F := F)).result ((op4 (F := F)).result ((op3 (F := F)).result ((op2 (F := F)).result ((op1 (F := F)).result (V3 m d)))))))) $$ [Hb Hheld]
  · isplitl [Hb]; · iexact Hb
    iexact Hheld
  iintro ⟨Hb, Hheld⟩
  rw [wp_ret]; imodintro
  imodintro
  ihave Hfin := (show (held (T d) S14 ((op7 (F := F)).result ((op6 (F := F)).result ((op5 (F := F)).result ((op4 (F := F)).result ((op3 (F := F)).result ((op2 (F := F)).result ((op1 (F := F)).result (V3 m d)))))))) : sProp 𝕄) ⊢ FIN m d from held_V4 m d) $$ Hheld
  isplitl [Hst]; · iexact Hst
  isplitl [Hfin]; · iexact Hfin
  isplitl [Hb] <;> iassumption

def fq (d : Dev nD) (s' : Phys nD τ sig (Elt F)) : Prop :=
  s'.mem.mem (x0Loc d) = m (x0Loc d) ∧ s'.mem.mem (x1Loc d) = m (x1Loc d)
    ∧ s'.mem.mem (r0Loc d) = (unpad1 (res0 m d) : Vec F S8x14040x1 .f32)
    ∧ s'.mem.mem (r1Loc d) = (unpad4 (res1 m d) : Vec F S8x14040x4 .f32)
    ∧ s'.mem.mem (r2Loc d) = (unpad4 (res2 m d) : Vec F S8x14040x4 .f32)

omit [FloatOps F] in
/-- What an array holds is what is owned of it. -/
theorem reads (s' : Phys nD τ sig (Elt F)) (ℓ : Loc nD τ sig) (f : Buf (Elt F) ℓ) :
    (iprop(SI s' ∗ ℓ ↦{fullShare} f) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H4⟩, HSI⟩
  ihave H := (reads s' (x0Loc d) _) $$ [HSI H0]
  · isplitl [HSI] <;> iassumption
  icases H with ⟨%h0, HSI⟩
  ihave H := (reads s' (x1Loc d) _) $$ [HSI H1]
  · isplitl [HSI] <;> iassumption
  icases H with ⟨%h1, HSI⟩
  ihave H := (reads s' (r0Loc d) _) $$ [HSI H2]
  · isplitl [HSI] <;> iassumption
  icases H with ⟨%h2, HSI⟩
  ihave H := (reads s' (r1Loc d) _) $$ [HSI H3]
  · isplitl [HSI] <;> iassumption
  icases H with ⟨%h3, HSI⟩
  ihave H := (reads s' (r2Loc d) _) $$ [HSI H4]
  · isplitl [HSI] <;> iassumption
  icases H with ⟨%h4, HSI⟩
  ipureintro
  exact ⟨h0, h1, h2, h3, h4⟩

/-! ## The run -/

def QC : PUnit × MemSt nD τ sig (Elt F) → Prop := fun r =>
  (∀ c : Dev nD, r.2.mem (x0Loc c) = m (x0Loc c) ∧ r.2.mem (x1Loc c) = m (x1Loc c)
    ∧ r.2.mem (r0Loc c) = (unpad1 (res0 m c) : Vec F S8x14040x1 .f32)
    ∧ r.2.mem (r1Loc c) = (unpad4 (res1 m c) : Vec F S8x14040x4 .f32)
    ∧ r.2.mem (r2Loc c) = (unpad4 (res2 m c) : Vec F S8x14040x4 .f32)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Roi.KernelIdeal

end
-- ==== Proof.RoiIdx.lean ====
/-
  The kernel's list of row numbers and the reference's are the same list: the kernel's entries count from the first row
  its tile copied in, the reference's from the first row of all.
-/
module

public import proofs.«01_k».proof.Proof.KernelIdealSlices
public import proofs.«01_k».proof.Proof.Gen.ReferenceIdeal

@[expose] public section

namespace Cert.Roi

open Cert

/-- Anchor `n`'s row is the same in both, and is a row. -/
abbrev SameRow (n : Nat) : Prop :=
  n < 14040 → KernelIdeal.lo (n / 3520) + (Cert.KernelIdeal.lit0t n).toNat = (Cert.ReferenceIdeal.lit0t n).toNat
    ∧ (Cert.ReferenceIdeal.lit0t n).toNat < 20000

/-- The same of six hundred and forty consecutive entries. -/
def SameRowPiece (k : Nat) : Prop := ∀ a : Fin 5, ∀ b : Fin 128, SameRow ((k * 5 + a.val) * 128 + b.val)

theorem row_0 : SameRowPiece 0 := by unfold SameRowPiece; decide +kernel
theorem row_1 : SameRowPiece 1 := by unfold SameRowPiece; decide +kernel
theorem row_2 : SameRowPiece 2 := by unfold SameRowPiece; decide +kernel
theorem row_3 : SameRowPiece 3 := by unfold SameRowPiece; decide +kernel
theorem row_4 : SameRowPiece 4 := by unfold SameRowPiece; decide +kernel
theorem row_5 : SameRowPiece 5 := by unfold SameRowPiece; decide +kernel
theorem row_6 : SameRowPiece 6 := by unfold SameRowPiece; decide +kernel
theorem row_7 : SameRowPiece 7 := by unfold SameRowPiece; decide +kernel
theorem row_8 : SameRowPiece 8 := by unfold SameRowPiece; decide +kernel
theorem row_9 : SameRowPiece 9 := by unfold SameRowPiece; decide +kernel
theorem row_10 : SameRowPiece 10 := by unfold SameRowPiece; decide +kernel
theorem row_11 : SameRowPiece 11 := by unfold SameRowPiece; decide +kernel
theorem row_12 : SameRowPiece 12 := by unfold SameRowPiece; decide +kernel
theorem row_13 : SameRowPiece 13 := by unfold SameRowPiece; decide +kernel
theorem row_14 : SameRowPiece 14 := by unfold SameRowPiece; decide +kernel
theorem row_15 : SameRowPiece 15 := by unfold SameRowPiece; decide +kernel
theorem row_16 : SameRowPiece 16 := by unfold SameRowPiece; decide +kernel
theorem row_17 : SameRowPiece 17 := by unfold SameRowPiece; decide +kernel
theorem row_18 : SameRowPiece 18 := by unfold SameRowPiece; decide +kernel
theorem row_19 : SameRowPiece 19 := by unfold SameRowPiece; decide +kernel
theorem row_20 : SameRowPiece 20 := by unfold SameRowPiece; decide +kernel
theorem row_21 : SameRowPiece 21 := by unfold SameRowPiece; decide +kernel

theorem row_all : ∀ k : Nat, k < 22 → SameRowPiece k
  | 0, _ => row_0
  | 1, _ => row_1
  | 2, _ => row_2
  | 3, _ => row_3
  | 4, _ => row_4
  | 5, _ => row_5
  | 6, _ => row_6
  | 7, _ => row_7
  | 8, _ => row_8
  | 9, _ => row_9
  | 10, _ => row_10
  | 11, _ => row_11
  | 12, _ => row_12
  | 13, _ => row_13
  | 14, _ => row_14
  | 15, _ => row_15
  | 16, _ => row_16
  | 17, _ => row_17
  | 18, _ => row_18
  | 19, _ => row_19
  | 20, _ => row_20
  | 21, _ => row_21
  | k + 22, h => absurd h (by omega)

theorem row_at (n : Nat) (h : n < 14080) : SameRow n := by
  have e : (n / 640 * 5 + n / 128 % 5) * 128 + n % 128 = n := by omega
  have := row_all (n / 640) (by omega) ⟨n / 128 % 5, by omega⟩ ⟨n % 128, by omega⟩
  rw [e] at this; exact this

theorem row_eq (n : Nat) (h : n < 14040) :
    KernelIdeal.lo (n / 3520) + (Cert.KernelIdeal.lit0t n).toNat = (Cert.ReferenceIdeal.lit0t n).toNat
      ∧ (Cert.ReferenceIdeal.lit0t n).toNat < 20000 :=
  row_at n (by omega) h

end Cert.Roi
-- ==== Proof.RefRows.lean ====
/-
  The reference's two gathers: every row number is in range, so each entry is the operand's at its row.
-/
module

public import proofs.«01_k».proof.Proof.RoiIdx
public import Idealize.ShloMosaic.Lib.Pointwise

@[expose] public section

noncomputable section

namespace Cert.Roi.Ref

open Cert.ReferenceIdeal Cert.ReferenceIdeal.Gen Idealize.ShloMosaic

variable {F : FTy → Type} [FloatOps F]

/-- The row numbers. -/
def nums : IVec S14040 32 := fun i => lit0 (S14040.rowMajor i)
/-- Negative ones counted from the end, in a column. -/
def starts : IVec S14040x1 32 :=
  broadcastInDim S14040x1 ![0] bcast_S14040_S14040x1_0 (select (cmpi .slt nums (broadcastInDim S14040 ![] bcast_S_S14040 (constantI S_ 32 0#32)))
    (addi nums (broadcastInDim S14040 ![] bcast_S_S14040 (constantI S_ 32 20000#32))) nums)
/-- Whether each is a row. -/
def inRange : IVec S14040 1 :=
  Host.reduce IntOp.andi (andi (cmpi .sge starts (broadcastInDim S14040x1 ![] bcast_S_S14040x1 (constantI S_ 32 0#32)))
    (cmpi .sle starts (broadcastInDim S14040x1 ![0, 1] bcast_S1x1_S14040x1_0_1 (broadcastInDim S1x1 ![1] bcast_S1_S1x1_1 (constantI S1 32 19999#32)))))
    (constantI S_ 1 1#1) reducesTo_S14040x1_S14040_d1 h_S_
/-- The scores taken. -/
def take1 (x : Vec F S8x20000x1 .f32) : Vec F S8x14040x1 .f32 :=
  select (broadcastInDim S8x14040x1 ![1] bcast_S14040_S8x14040x1_1 inRange) (Host.gather gather_S8x20000x1_S14040x1_S8x14040x1_02_1_n_n_1_1_811 x starts)
    (broadcastInDim S8x14040x1 ![] bcast_S_S8x14040x1 (constant S_ .f32 0x7FC00000#32))
/-- The regressions taken. -/
def take4 (x : Vec F S8x20000x4 .f32) : Vec F S8x14040x4 .f32 :=
  select (broadcastInDim S8x14040x4 ![1] bcast_S14040_S8x14040x4_1 inRange) (Host.gather gather_S8x20000x4_S14040x1_S8x14040x4_02_1_n_n_1_1_814 x starts)
    (broadcastInDim S8x14040x4 ![] bcast_S_S8x14040x4 (constant S_ .f32 0x7FC00000#32))

/-- A word below twenty thousand is not negative, and read signed is what it is unsigned. -/
theorem slt_zero (v : BitVec 32) (h : v.toNat < 20000) : IntOp.cmpi .slt v 0#32 = 0#1 := by
  have : v.slt 0#32 = false := by
    rw [BitVec.slt_eq_decide, decide_eq_false_iff_not, BitVec.toInt_eq_toNat_of_lt (by omega)]
    simp
  show BitVec.ofBool (v.slt 0#32) = 0#1
  rw [this]; rfl
theorem sge_zero (v : BitVec 32) (h : v.toNat < 20000) : IntOp.cmpi .sge v 0#32 = 1#1 := by
  have : (0#32).sle v = true := by
    rw [BitVec.sle_eq_decide, decide_eq_true_iff, BitVec.toInt_eq_toNat_of_lt (x := v) (by omega)]
    simp
  show BitVec.ofBool ((0#32).sle v) = 1#1
  rw [this]; rfl
theorem sle_last (v : BitVec 32) (h : v.toNat < 20000) : IntOp.cmpi .sle v 19999#32 = 1#1 := by
  have : v.sle 19999#32 = true := by
    rw [BitVec.sle_eq_decide, decide_eq_true_iff, BitVec.toInt_eq_toNat_of_lt (x := v) (by omega)]
    show (v.toNat : Int) ≤ 19999
    omega
  show BitVec.ofBool (v.sle 19999#32) = 1#1
  rw [this]; rfl

theorem nums_apply (i : S14040.Idx) : nums i = Cert.ReferenceIdeal.lit0t (i 0).val := by
  unfold nums
  have : (S14040.rowMajor i).val = (i 0).val := by
    exact Shape.rowMajor_val_one i
  show Cert.ReferenceIdeal.lit0t (S14040.rowMajor i).val = _
  rw [this]

theorem starts_apply (i : S14040x1.Idx) : starts i = Cert.ReferenceIdeal.lit0t (i 0).val := by
  have hn : (i 0).val < 14040 := (i 0).isLt
  pointwise [starts]
  rw [nums_apply]
  show Scalar.select (IntOp.cmpi .slt (Cert.ReferenceIdeal.lit0t (i 0).val) 0#32) _ _ = _
  rw [slt_zero _ (row_eq _ hn).2]
  rfl

theorem inRange_apply (j : S14040.Idx) : inRange j = 1#1 := by
  unfold inRange
  rw [Host.reduce_eq_fold]
  have all : ∀ i : S14040x1.Idx, andi (cmpi .sge starts (broadcastInDim S14040x1 ![] bcast_S_S14040x1 (constantI S_ 32 0#32)))
      (cmpi .sle starts (broadcastInDim S14040x1 ![0, 1] bcast_S1x1_S14040x1_0_1 (broadcastInDim S1x1 ![1] bcast_S1_S1x1_1 (constantI S1 32 19999#32)))) i = 1#1 := by
    intro i
    have hn : (i 0).val < 14040 := (i 0).isLt
    show IntOp.andi (IntOp.cmpi .sge (starts i) 0#32) (IntOp.cmpi .sle (starts i) 19999#32) = 1#1
    rw [starts_apply, sge_zero _ (row_eq _ hn).2, sle_last _ (row_eq _ hn).2]
    rfl
  rw [Finset.fold_congr (g := fun _ => 1#1) fun i _ => all i]
  show Finset.fold IntOp.andi 1#1 (fun _ => 1#1) _ = 1#1
  generalize (Finset.univ.filter fun i => Shape.ReducesTo.drop reducesTo_S14040x1_S14040_d1 i = j) = s
  induction s using Finset.induction_on with
  | empty => rfl
  | insert a s ha ih => rw [Finset.fold_insert ha, ih]; rfl

/-! ## The gathers at an index -/

/-- The row of anchor `n`, as a number of a row. -/
def row (n : Fin 14040) : Fin 20000 := ⟨(Cert.ReferenceIdeal.lit0t n.val).toNat, (row_eq n.val n.isLt).2⟩

theorem clamped (n : Fin 14040) : min (starts (ix2 n 0)).toInt.toNat 19999 = (row n).val := by
  have h := (row_eq n.val n.isLt).2
  rw [starts_apply]
  show min (Cert.ReferenceIdeal.lit0t n.val).toInt.toNat 19999 = (Cert.ReferenceIdeal.lit0t n.val).toNat
  rw [BitVec.toInt_eq_toNat_of_lt (by omega), Int.toNat_natCast]
  omega

theorem gather1_apply {α : Type} (x : S8x20000x1.Idx → α) (b : Fin 8) (n : Fin 14040) (k : Fin 1) :
    Host.gather gather_S8x20000x1_S14040x1_S8x14040x1_02_1_n_n_1_1_811 x starts (ix3 b n k) = x (ix3 b (row n) k) := by
  unfold Host.gather
  congr 1
  funext a
  refine Fin.ext ?_
  match a with
  | 0 => exact (by show 0 + 0 + b.val = b.val; omega)
  | 1 => exact clamped n
  | 2 => exact (by show 0 + 0 + k.val = k.val; omega)

theorem gather4_apply {α : Type} (x : S8x20000x4.Idx → α) (b : Fin 8) (n : Fin 14040) (k : Fin 4) :
    Host.gather gather_S8x20000x4_S14040x1_S8x14040x4_02_1_n_n_1_1_814 x starts (ix3 b n k) = x (ix3 b (row n) k) := by
  unfold Host.gather
  congr 1
  funext a
  refine Fin.ext ?_
  match a with
  | 0 => exact (by show 0 + 0 + b.val = b.val; omega)
  | 1 => exact clamped n
  | 2 => exact (by show 0 + 0 + k.val = k.val; omega)

theorem take1_apply (x : Vec F S8x20000x1 .f32) (b : Fin 8) (n : Fin 14040) (k : Fin 1) : take1 x (ix3 b n k) = x (ix3 b (row n) k) := by
  unfold take1
  show Scalar.select (inRange _) _ _ = _
  rw [inRange_apply, gather1_apply]
  rfl

theorem take4_apply (x : Vec F S8x20000x4 .f32) (b : Fin 8) (n : Fin 14040) (k : Fin 4) : take4 x (ix3 b n k) = x (ix3 b (row n) k) := by
  unfold take4
  show Scalar.select (inRange _) _ _ = _
  rw [inRange_apply, gather4_apply]
  rfl

end Cert.Roi.Ref

end
-- ==== Proof.RefBoxes.lean ====
/-
  The reference's boxes, at an entry: the reference's formula of the four regressions and the anchor's constants.
-/
module

public import proofs.«01_k».proof.Proof.RefRows
public import proofs.«01_k».proof.Proof.Gen.ReferenceIdeal.Run

@[expose] public section

noncomputable section

namespace Cert.Roi.Ref

open Cert.ReferenceIdeal Cert.ReferenceIdeal.Gen Idealize.ShloMosaic Idealize.SL.Sem Idealize.ShloMosaic.TcCoe

/-- One of the anchors' constants in every image. -/
def along (a : FVec Ideal S14040 .f32) : FVec Ideal S8x14040 .f32 :=
  broadcastInDim S8x14040 ![0, 1] bcast_S1x14040_S8x14040_0_1 (broadcastInDim S1x14040 ![1] bcast_S14040_S1x14040_1 a)
def splat2 (v : BitVec 32) : FVec Ideal S8x14040 .f32 := broadcastInDim S8x14040 ![] bcast_S_S8x14040 (constant S_ .f32 v)
/-- Half a box's extent along an axis. -/
def halves (w d : FVec Ideal S8x14040 .f32) : FVec Ideal S8x14040 .f32 :=
  mulf (splat2 0x3F000000#32) (mulf w (Host.exp (minimumf (splat2 0x40845349#32) (maximumf (splat2 0xC0845349#32) d))))
/-- A box's centre along an axis. -/
def mids (a d w : FVec Ideal S8x14040 .f32) : FVec Ideal S8x14040 .f32 := addf a (mulf d w)

variable (T : FVec Ideal S8x14040x4 .f32)

def col0 : FVec Ideal S8x14040 .f32 := shapeCast _ (extractStridedSlice S8x14040x1 ![0, 0, 0] T slices_S8x14040x4_S8x14040x1_0_0_0) shapeCasts_S8x14040x1_S8x14040
def col1 : FVec Ideal S8x14040 .f32 := shapeCast _ (extractStridedSlice S8x14040x1 ![0, 0, 1] T slices_S8x14040x4_S8x14040x1_0_0_1) shapeCasts_S8x14040x1_S8x14040
def col2 : FVec Ideal S8x14040 .f32 := shapeCast _ (extractStridedSlice S8x14040x1 ![0, 0, 2] T slices_S8x14040x4_S8x14040x1_0_0_2) shapeCasts_S8x14040x1_S8x14040
def col3 : FVec Ideal S8x14040 .f32 := shapeCast _ (extractStridedSlice S8x14040x1 ![0, 0, 3] T slices_S8x14040x4_S8x14040x1_0_0_3) shapeCasts_S8x14040x1_S8x14040

def widths : FVec Ideal S14040 .f32 := fun i => FloatOps.ofBits .f32 (lit1 (S14040.rowMajor i))
def heights : FVec Ideal S14040 .f32 := fun i => FloatOps.ofBits .f32 (lit2 (S14040.rowMajor i))
def centreXs : FVec Ideal S14040 .f32 := fun i => FloatOps.ofBits .f32 (lit3 (S14040.rowMajor i))
def centreYs : FVec Ideal S14040 .f32 := fun i => FloatOps.ofBits .f32 (lit4 (S14040.rowMajor i))

def left : FVec Ideal S8x14040 .f32 := subf (mids (along centreXs) (col0 T) (along widths)) (halves (along widths) (col2 T))
def top : FVec Ideal S8x14040 .f32 := subf (mids (along centreYs) (col1 T) (along heights)) (halves (along heights) (col3 T))
def right : FVec Ideal S8x14040 .f32 := addf (mids (along centreXs) (col0 T) (along widths)) (halves (along widths) (col2 T))
def bottom : FVec Ideal S8x14040 .f32 := addf (mids (along centreYs) (col1 T) (along heights)) (halves (along heights) (col3 T))
def slab (x : FVec Ideal S8x14040 .f32) : FVec Ideal S8x14040x1 .f32 := broadcastInDim S8x14040x1 ![0, 1] bcast_S8x14040_S8x14040x1_0_1 x
def splat3 (v : BitVec 32) : FVec Ideal S8x14040x4 .f32 := broadcastInDim S8x14040x4 ![] bcast_S_S8x14040x4 (constant S_ .f32 v)
/-- The reference's boxes of the regressions `T`. -/
def boxes : FVec Ideal S8x14040x4 .f32 :=
  minimumf (splat3 0x3F8CCCCD#32) (maximumf (splat3 0xBDCCCCCD#32)
    (concatenate S8x14040x4 2 [⟨S8x14040x1, slab (left T)⟩, ⟨S8x14040x1, slab (top T)⟩, ⟨S8x14040x1, slab (right T)⟩, ⟨S8x14040x1, slab (bottom T)⟩]
      concatenates_S8x14040x1_S8x14040x1_S8x14040x1_S8x14040x1_S8x14040x4_d2))

set_option maxRecDepth 8192 in
theorem res_eq (m : (ℓ : Loc nD τ sig) → Buf (Elt Ideal) ℓ) (c : Dev nD) :
    Cert.ReferenceIdeal.Value.res_main_v49 m c = boxes (take4 (F := Ideal) (m ((c.tc : Thread nD τ).loc main_arg1))) := rfl

theorem along_apply (a : FVec Ideal S14040 .f32) (b : Fin 8) (n : Fin 14040) : along a (ix2 b n) = a (ix1 n) := by pointwise [along]
theorem col0_apply (b : Fin 8) (n : Fin 14040) : col0 T (ix2 b n) = T (ix3 b n 0) := by pointwise [col0]
theorem col1_apply (b : Fin 8) (n : Fin 14040) : col1 T (ix2 b n) = T (ix3 b n 1) := by pointwise [col1]
theorem col2_apply (b : Fin 8) (n : Fin 14040) : col2 T (ix2 b n) = T (ix3 b n 2) := by pointwise [col2]
theorem col3_apply (b : Fin 8) (n : Fin 14040) : col3 T (ix2 b n) = T (ix3 b n 3) := by pointwise [col3]
theorem slab_apply (x : FVec Ideal S8x14040 .f32) (b : Fin 8) (n : Fin 14040) (k : Fin 1) : slab x (ix3 b n k) = x (ix2 b n) := by pointwise [slab]

/-- A constant of the anchors, in the table's words. -/
theorem widths_apply (n : Fin 14040) : widths (ix1 n) = FloatOps.ofBits .f32 (Cert.ReferenceIdeal.lit1t n.val) := by
  show FloatOps.ofBits .f32 (Cert.ReferenceIdeal.lit1t (S14040.rowMajor (ix1 n)).val) = _
  rw [Shape.rowMajor_val_one]; rfl
theorem heights_apply (n : Fin 14040) : heights (ix1 n) = FloatOps.ofBits .f32 (Cert.ReferenceIdeal.lit2t n.val) := by
  show FloatOps.ofBits .f32 (Cert.ReferenceIdeal.lit2t (S14040.rowMajor (ix1 n)).val) = _
  rw [Shape.rowMajor_val_one]; rfl
theorem centreXs_apply (n : Fin 14040) : centreXs (ix1 n) = FloatOps.ofBits .f32 (Cert.ReferenceIdeal.lit3t n.val) := by
  show FloatOps.ofBits .f32 (Cert.ReferenceIdeal.lit3t (S14040.rowMajor (ix1 n)).val) = _
  rw [Shape.rowMajor_val_one]; rfl
theorem centreYs_apply (n : Fin 14040) : centreYs (ix1 n) = FloatOps.ofBits .f32 (Cert.ReferenceIdeal.lit4t n.val) := by
  show FloatOps.ofBits .f32 (Cert.ReferenceIdeal.lit4t (S14040.rowMajor (ix1 n)).val) = _
  rw [Shape.rowMajor_val_one]; rfl

/-- Half a box's extent, of one anchor. -/
def half (w d : EReal) : EReal :=
  Ideal.ofBits .f32 0x3F000000#32 * (w * Ideal.exp (min (Ideal.ofBits .f32 0x40845349#32) (max (Ideal.ofBits .f32 0xC0845349#32) d)))
def clip (x : EReal) : EReal := min (Ideal.ofBits .f32 0x3F8CCCCD#32) (max (Ideal.ofBits .f32 0xBDCCCCCD#32) x)
def mid (a d w : EReal) : EReal := a + d * w

theorem halves_apply (w d : FVec Ideal S8x14040 .f32) (i : S8x14040.Idx) : halves w d i = half (w i) (d i) := rfl
theorem mids_apply (a d w : FVec Ideal S8x14040 .f32) (i : S8x14040.Idx) : mids a d w i = mid (a i) (d i) (w i) := rfl

theorem left_apply (b : Fin 8) (n : Fin 14040) : left T (ix2 b n)
    = mid (centreXs (ix1 n)) (T (ix3 b n 0)) (widths (ix1 n)) - half (widths (ix1 n)) (T (ix3 b n 2)) := by
  show mids _ _ _ (ix2 b n) - halves _ _ (ix2 b n) = _
  rw [mids_apply, halves_apply, along_apply, along_apply, col0_apply, col2_apply]
theorem top_apply (b : Fin 8) (n : Fin 14040) : top T (ix2 b n)
    = mid (centreYs (ix1 n)) (T (ix3 b n 1)) (heights (ix1 n)) - half (heights (ix1 n)) (T (ix3 b n 3)) := by
  show mids _ _ _ (ix2 b n) - halves _ _ (ix2 b n) = _
  rw [mids_apply, halves_apply, along_apply, along_apply, col1_apply, col3_apply]
theorem right_apply (b : Fin 8) (n : Fin 14040) : right T (ix2 b n)
    = mid (centreXs (ix1 n)) (T (ix3 b n 0)) (widths (ix1 n)) + half (widths (ix1 n)) (T (ix3 b n 2)) := by
  show mids _ _ _ (ix2 b n) + halves _ _ (ix2 b n) = _
  rw [mids_apply, halves_apply, along_apply, along_apply, col0_apply, col2_apply]
theorem bottom_apply (b : Fin 8) (n : Fin 14040) : bottom T (ix2 b n)
    = mid (centreYs (ix1 n)) (T (ix3 b n 1)) (heights (ix1 n)) + half (heights (ix1 n)) (T (ix3 b n 3)) := by
  show mids _ _ _ (ix2 b n) + halves _ _ (ix2 b n) = _
  rw [mids_apply, halves_apply, along_apply, along_apply, col1_apply, col3_apply]

/-- The four corners in the order they are laid. -/
def corner (b : Fin 8) (n : Fin 14040) : Nat → EReal
  | 0 => left T (ix2 b n) | 1 => top T (ix2 b n) | 2 => right T (ix2 b n) | _ => bottom T (ix2 b n)

theorem boxes_apply (b : Fin 8) (n : Fin 14040) (k : Fin 4) : boxes T (ix3 b n k) = clip (corner T b n k.val) := by
  have e : (concatenate S8x14040x4 2 [⟨S8x14040x1, slab (left T)⟩, ⟨S8x14040x1, slab (top T)⟩, ⟨S8x14040x1, slab (right T)⟩, ⟨S8x14040x1, slab (bottom T)⟩]
      concatenates_S8x14040x1_S8x14040x1_S8x14040x1_S8x14040x1_S8x14040x4_d2 : FVec Ideal S8x14040x4 .f32) (ix3 b n k) = corner T b n k.val := by
    pointwise
    fin_vals k with hk
    all_goals simp only [hk, Nat.reduceSub, Nat.reduceLT, ↓reduceDIte, slab_apply, corner]
  show clip ((concatenate S8x14040x4 2 _ _ : FVec Ideal S8x14040x4 .f32) (ix3 b n k)) = _
  rw [e]

end Cert.Roi.Ref

end
-- ==== Proof.RoiWidth.lean ====
/-
  The anchors' widths as the kernel keeps them, quarter by quarter, are the reference's.
-/
module

public import proofs.«01_k».proof.Proof.Gen.KernelIdeal
public import proofs.«01_k».proof.Proof.Gen.ReferenceIdeal

@[expose] public section

namespace Cert.Roi

open Cert

/-- Anchor `n`'s entry is the same in both. -/
abbrev SameWidth (n : Nat) : Prop :=
  n < 14040 → Cert.KernelIdeal.lit1t (n / 3520 * 14080 + 0 + n % 3520) = Cert.ReferenceIdeal.lit1t n

/-- The same of six hundred and forty consecutive entries. -/
def SameWidthPiece (k : Nat) : Prop := ∀ a : Fin 5, ∀ b : Fin 128, SameWidth ((k * 5 + a.val) * 128 + b.val)

theorem width_0 : SameWidthPiece 0 := by unfold SameWidthPiece; decide +kernel
theorem width_1 : SameWidthPiece 1 := by unfold SameWidthPiece; decide +kernel
theorem width_2 : SameWidthPiece 2 := by unfold SameWidthPiece; decide +kernel
theorem width_3 : SameWidthPiece 3 := by unfold SameWidthPiece; decide +kernel
theorem width_4 : SameWidthPiece 4 := by unfold SameWidthPiece; decide +kernel
theorem width_5 : SameWidthPiece 5 := by unfold SameWidthPiece; decide +kernel
theorem width_6 : SameWidthPiece 6 := by unfold SameWidthPiece; decide +kernel
theorem width_7 : SameWidthPiece 7 := by unfold SameWidthPiece; decide +kernel
theorem width_8 : SameWidthPiece 8 := by unfold SameWidthPiece; decide +kernel
theorem width_9 : SameWidthPiece 9 := by unfold SameWidthPiece; decide +kernel
theorem width_10 : SameWidthPiece 10 := by unfold SameWidthPiece; decide +kernel
theorem width_11 : SameWidthPiece 11 := by unfold SameWidthPiece; decide +kernel
theorem width_12 : SameWidthPiece 12 := by unfold SameWidthPiece; decide +kernel
theorem width_13 : SameWidthPiece 13 := by unfold SameWidthPiece; decide +kernel
theorem width_14 : SameWidthPiece 14 := by unfold SameWidthPiece; decide +kernel
theorem width_15 : SameWidthPiece 15 := by unfold SameWidthPiece; decide +kernel
theorem width_16 : SameWidthPiece 16 := by unfold SameWidthPiece; decide +kernel
theorem width_17 : SameWidthPiece 17 := by unfold SameWidthPiece; decide +kernel
theorem width_18 : SameWidthPiece 18 := by unfold SameWidthPiece; decide +kernel
theorem width_19 : SameWidthPiece 19 := by unfold SameWidthPiece; decide +kernel
theorem width_20 : SameWidthPiece 20 := by unfold SameWidthPiece; decide +kernel
theorem width_21 : SameWidthPiece 21 := by unfold SameWidthPiece; decide +kernel

theorem width_all : ∀ k : Nat, k < 22 → SameWidthPiece k
  | 0, _ => width_0
  | 1, _ => width_1
  | 2, _ => width_2
  | 3, _ => width_3
  | 4, _ => width_4
  | 5, _ => width_5
  | 6, _ => width_6
  | 7, _ => width_7
  | 8, _ => width_8
  | 9, _ => width_9
  | 10, _ => width_10
  | 11, _ => width_11
  | 12, _ => width_12
  | 13, _ => width_13
  | 14, _ => width_14
  | 15, _ => width_15
  | 16, _ => width_16
  | 17, _ => width_17
  | 18, _ => width_18
  | 19, _ => width_19
  | 20, _ => width_20
  | 21, _ => width_21
  | k + 22, h => absurd h (by omega)

theorem width_at (n : Nat) (h : n < 14080) : SameWidth n := by
  have e : (n / 640 * 5 + n / 128 % 5) * 128 + n % 128 = n := by omega
  have := width_all (n / 640) (by omega) ⟨n / 128 % 5, by omega⟩ ⟨n % 128, by omega⟩
  rw [e] at this; exact this

theorem width_eq (n : Nat) (h : n < 14040) : Cert.KernelIdeal.lit1t (n / 3520 * 14080 + 0 + n % 3520) = Cert.ReferenceIdeal.lit1t n :=
  width_at n (by omega) h

end Cert.Roi
-- ==== Proof.RoiHeight.lean ====
/-
  The anchors' heights as the kernel keeps them, quarter by quarter, are the reference's.
-/
module

public import proofs.«01_k».proof.Proof.Gen.KernelIdeal
public import proofs.«01_k».proof.Proof.Gen.ReferenceIdeal

@[expose] public section

namespace Cert.Roi

open Cert

/-- Anchor `n`'s entry is the same in both. -/
abbrev SameHeight (n : Nat) : Prop :=
  n < 14040 → Cert.KernelIdeal.lit1t (n / 3520 * 14080 + 3520 + n % 3520) = Cert.ReferenceIdeal.lit2t n

/-- The same of six hundred and forty consecutive entries. -/
def SameHeightPiece (k : Nat) : Prop := ∀ a : Fin 5, ∀ b : Fin 128, SameHeight ((k * 5 + a.val) * 128 + b.val)

theorem height_0 : SameHeightPiece 0 := by unfold SameHeightPiece; decide +kernel
theorem height_1 : SameHeightPiece 1 := by unfold SameHeightPiece; decide +kernel
theorem height_2 : SameHeightPiece 2 := by unfold SameHeightPiece; decide +kernel
theorem height_3 : SameHeightPiece 3 := by unfold SameHeightPiece; decide +kernel
theorem height_4 : SameHeightPiece 4 := by unfold SameHeightPiece; decide +kernel
theorem height_5 : SameHeightPiece 5 := by unfold SameHeightPiece; decide +kernel
theorem height_6 : SameHeightPiece 6 := by unfold SameHeightPiece; decide +kernel
theorem height_7 : SameHeightPiece 7 := by unfold SameHeightPiece; decide +kernel
theorem height_8 : SameHeightPiece 8 := by unfold SameHeightPiece; decide +kernel
theorem height_9 : SameHeightPiece 9 := by unfold SameHeightPiece; decide +kernel
theorem height_10 : SameHeightPiece 10 := by unfold SameHeightPiece; decide +kernel
theorem height_11 : SameHeightPiece 11 := by unfold SameHeightPiece; decide +kernel
theorem height_12 : SameHeightPiece 12 := by unfold SameHeightPiece; decide +kernel
theorem height_13 : SameHeightPiece 13 := by unfold SameHeightPiece; decide +kernel
theorem height_14 : SameHeightPiece 14 := by unfold SameHeightPiece; decide +kernel
theorem height_15 : SameHeightPiece 15 := by unfold SameHeightPiece; decide +kernel
theorem height_16 : SameHeightPiece 16 := by unfold SameHeightPiece; decide +kernel
theorem height_17 : SameHeightPiece 17 := by unfold SameHeightPiece; decide +kernel
theorem height_18 : SameHeightPiece 18 := by unfold SameHeightPiece; decide +kernel
theorem height_19 : SameHeightPiece 19 := by unfold SameHeightPiece; decide +kernel
theorem height_20 : SameHeightPiece 20 := by unfold SameHeightPiece; decide +kernel
theorem height_21 : SameHeightPiece 21 := by unfold SameHeightPiece; decide +kernel

theorem height_all : ∀ k : Nat, k < 22 → SameHeightPiece k
  | 0, _ => height_0
  | 1, _ => height_1
  | 2, _ => height_2
  | 3, _ => height_3
  | 4, _ => height_4
  | 5, _ => height_5
  | 6, _ => height_6
  | 7, _ => height_7
  | 8, _ => height_8
  | 9, _ => height_9
  | 10, _ => height_10
  | 11, _ => height_11
  | 12, _ => height_12
  | 13, _ => height_13
  | 14, _ => height_14
  | 15, _ => height_15
  | 16, _ => height_16
  | 17, _ => height_17
  | 18, _ => height_18
  | 19, _ => height_19
  | 20, _ => height_20
  | 21, _ => height_21
  | k + 22, h => absurd h (by omega)

theorem height_at (n : Nat) (h : n < 14080) : SameHeight n := by
  have e : (n / 640 * 5 + n / 128 % 5) * 128 + n % 128 = n := by omega
  have := height_all (n / 640) (by omega) ⟨n / 128 % 5, by omega⟩ ⟨n % 128, by omega⟩
  rw [e] at this; exact this

theorem height_eq (n : Nat) (h : n < 14040) : Cert.KernelIdeal.lit1t (n / 3520 * 14080 + 3520 + n % 3520) = Cert.ReferenceIdeal.lit2t n :=
  height_at n (by omega) h

end Cert.Roi
-- ==== Proof.RoiCentreX.lean ====
/-
  The anchors' horizontal centres as the kernel keeps them, quarter by quarter, are the reference's.
-/
module

public import proofs.«01_k».proof.Proof.Gen.KernelIdeal
public import proofs.«01_k».proof.Proof.Gen.ReferenceIdeal

@[expose] public section

namespace Cert.Roi

open Cert

/-- Anchor `n`'s entry is the same in both. -/
abbrev SameCentreX (n : Nat) : Prop :=
  n < 14040 → Cert.KernelIdeal.lit1t (n / 3520 * 14080 + 7040 + n % 3520) = Cert.ReferenceIdeal.lit3t n

/-- The same of six hundred and forty consecutive entries. -/
def SameCentreXPiece (k : Nat) : Prop := ∀ a : Fin 5, ∀ b : Fin 128, SameCentreX ((k * 5 + a.val) * 128 + b.val)

theorem centreX_0 : SameCentreXPiece 0 := by unfold SameCentreXPiece; decide +kernel
theorem centreX_1 : SameCentreXPiece 1 := by unfold SameCentreXPiece; decide +kernel
theorem centreX_2 : SameCentreXPiece 2 := by unfold SameCentreXPiece; decide +kernel
theorem centreX_3 : SameCentreXPiece 3 := by unfold SameCentreXPiece; decide +kernel
theorem centreX_4 : SameCentreXPiece 4 := by unfold SameCentreXPiece; decide +kernel
theorem centreX_5 : SameCentreXPiece 5 := by unfold SameCentreXPiece; decide +kernel
theorem centreX_6 : SameCentreXPiece 6 := by unfold SameCentreXPiece; decide +kernel
theorem centreX_7 : SameCentreXPiece 7 := by unfold SameCentreXPiece; decide +kernel
theorem centreX_8 : SameCentreXPiece 8 := by unfold SameCentreXPiece; decide +kernel
theorem centreX_9 : SameCentreXPiece 9 := by unfold SameCentreXPiece; decide +kernel
theorem centreX_10 : SameCentreXPiece 10 := by unfold SameCentreXPiece; decide +kernel
theorem centreX_11 : SameCentreXPiece 11 := by unfold SameCentreXPiece; decide +kernel
theorem centreX_12 : SameCentreXPiece 12 := by unfold SameCentreXPiece; decide +kernel
theorem centreX_13 : SameCentreXPiece 13 := by unfold SameCentreXPiece; decide +kernel
theorem centreX_14 : SameCentreXPiece 14 := by unfold SameCentreXPiece; decide +kernel
theorem centreX_15 : SameCentreXPiece 15 := by unfold SameCentreXPiece; decide +kernel
theorem centreX_16 : SameCentreXPiece 16 := by unfold SameCentreXPiece; decide +kernel
theorem centreX_17 : SameCentreXPiece 17 := by unfold SameCentreXPiece; decide +kernel
theorem centreX_18 : SameCentreXPiece 18 := by unfold SameCentreXPiece; decide +kernel
theorem centreX_19 : SameCentreXPiece 19 := by unfold SameCentreXPiece; decide +kernel
theorem centreX_20 : SameCentreXPiece 20 := by unfold SameCentreXPiece; decide +kernel
theorem centreX_21 : SameCentreXPiece 21 := by unfold SameCentreXPiece; decide +kernel

theorem centreX_all : ∀ k : Nat, k < 22 → SameCentreXPiece k
  | 0, _ => centreX_0
  | 1, _ => centreX_1
  | 2, _ => centreX_2
  | 3, _ => centreX_3
  | 4, _ => centreX_4
  | 5, _ => centreX_5
  | 6, _ => centreX_6
  | 7, _ => centreX_7
  | 8, _ => centreX_8
  | 9, _ => centreX_9
  | 10, _ => centreX_10
  | 11, _ => centreX_11
  | 12, _ => centreX_12
  | 13, _ => centreX_13
  | 14, _ => centreX_14
  | 15, _ => centreX_15
  | 16, _ => centreX_16
  | 17, _ => centreX_17
  | 18, _ => centreX_18
  | 19, _ => centreX_19
  | 20, _ => centreX_20
  | 21, _ => centreX_21
  | k + 22, h => absurd h (by omega)

theorem centreX_at (n : Nat) (h : n < 14080) : SameCentreX n := by
  have e : (n / 640 * 5 + n / 128 % 5) * 128 + n % 128 = n := by omega
  have := centreX_all (n / 640) (by omega) ⟨n / 128 % 5, by omega⟩ ⟨n % 128, by omega⟩
  rw [e] at this; exact this

theorem centreX_eq (n : Nat) (h : n < 14040) : Cert.KernelIdeal.lit1t (n / 3520 * 14080 + 7040 + n % 3520) = Cert.ReferenceIdeal.lit3t n :=
  centreX_at n (by omega) h

end Cert.Roi
-- ==== Proof.RoiCentreY.lean ====
/-
  The anchors' vertical centres as the kernel keeps them, quarter by quarter, are the reference's.
-/
module

public import proofs.«01_k».proof.Proof.Gen.KernelIdeal
public import proofs.«01_k».proof.Proof.Gen.ReferenceIdeal

@[expose] public section

namespace Cert.Roi

open Cert

/-- Anchor `n`'s entry is the same in both. -/
abbrev SameCentreY (n : Nat) : Prop :=
  n < 14040 → Cert.KernelIdeal.lit1t (n / 3520 * 14080 + 10560 + n % 3520) = Cert.ReferenceIdeal.lit4t n

/-- The same of six hundred and forty consecutive entries. -/
def SameCentreYPiece (k : Nat) : Prop := ∀ a : Fin 5, ∀ b : Fin 128, SameCentreY ((k * 5 + a.val) * 128 + b.val)

theorem centreY_0 : SameCentreYPiece 0 := by unfold SameCentreYPiece; decide +kernel
theorem centreY_1 : SameCentreYPiece 1 := by unfold SameCentreYPiece; decide +kernel
theorem centreY_2 : SameCentreYPiece 2 := by unfold SameCentreYPiece; decide +kernel
theorem centreY_3 : SameCentreYPiece 3 := by unfold SameCentreYPiece; decide +kernel
theorem centreY_4 : SameCentreYPiece 4 := by unfold SameCentreYPiece; decide +kernel
theorem centreY_5 : SameCentreYPiece 5 := by unfold SameCentreYPiece; decide +kernel
theorem centreY_6 : SameCentreYPiece 6 := by unfold SameCentreYPiece; decide +kernel
theorem centreY_7 : SameCentreYPiece 7 := by unfold SameCentreYPiece; decide +kernel
theorem centreY_8 : SameCentreYPiece 8 := by unfold SameCentreYPiece; decide +kernel
theorem centreY_9 : SameCentreYPiece 9 := by unfold SameCentreYPiece; decide +kernel
theorem centreY_10 : SameCentreYPiece 10 := by unfold SameCentreYPiece; decide +kernel
theorem centreY_11 : SameCentreYPiece 11 := by unfold SameCentreYPiece; decide +kernel
theorem centreY_12 : SameCentreYPiece 12 := by unfold SameCentreYPiece; decide +kernel
theorem centreY_13 : SameCentreYPiece 13 := by unfold SameCentreYPiece; decide +kernel
theorem centreY_14 : SameCentreYPiece 14 := by unfold SameCentreYPiece; decide +kernel
theorem centreY_15 : SameCentreYPiece 15 := by unfold SameCentreYPiece; decide +kernel
theorem centreY_16 : SameCentreYPiece 16 := by unfold SameCentreYPiece; decide +kernel
theorem centreY_17 : SameCentreYPiece 17 := by unfold SameCentreYPiece; decide +kernel
theorem centreY_18 : SameCentreYPiece 18 := by unfold SameCentreYPiece; decide +kernel
theorem centreY_19 : SameCentreYPiece 19 := by unfold SameCentreYPiece; decide +kernel
theorem centreY_20 : SameCentreYPiece 20 := by unfold SameCentreYPiece; decide +kernel
theorem centreY_21 : SameCentreYPiece 21 := by unfold SameCentreYPiece; decide +kernel

theorem centreY_all : ∀ k : Nat, k < 22 → SameCentreYPiece k
  | 0, _ => centreY_0
  | 1, _ => centreY_1
  | 2, _ => centreY_2
  | 3, _ => centreY_3
  | 4, _ => centreY_4
  | 5, _ => centreY_5
  | 6, _ => centreY_6
  | 7, _ => centreY_7
  | 8, _ => centreY_8
  | 9, _ => centreY_9
  | 10, _ => centreY_10
  | 11, _ => centreY_11
  | 12, _ => centreY_12
  | 13, _ => centreY_13
  | 14, _ => centreY_14
  | 15, _ => centreY_15
  | 16, _ => centreY_16
  | 17, _ => centreY_17
  | 18, _ => centreY_18
  | 19, _ => centreY_19
  | 20, _ => centreY_20
  | 21, _ => centreY_21
  | k + 22, h => absurd h (by omega)

theorem centreY_at (n : Nat) (h : n < 14080) : SameCentreY n := by
  have e : (n / 640 * 5 + n / 128 % 5) * 128 + n % 128 = n := by omega
  have := centreY_all (n / 640) (by omega) ⟨n / 128 % 5, by omega⟩ ⟨n % 128, by omega⟩
  rw [e] at this; exact this

theorem centreY_eq (n : Nat) (h : n < 14040) : Cert.KernelIdeal.lit1t (n / 3520 * 14080 + 10560 + n % 3520) = Cert.ReferenceIdeal.lit4t n :=
  centreY_at n (by omega) h

end Cert.Roi
-- ==== Proof.RoiEqual.lean ====
/-
  The kernel's three results are the reference's, entry by entry: the same row of the same array, the same constants,
  and the same box (the half extent's product associated the other way).
-/
module

public import proofs.«01_k».proof.Proof.KernelIdealMain
public import proofs.«01_k».proof.Proof.RefBoxes
public import proofs.«01_k».proof.Proof.RoiWidth
public import proofs.«01_k».proof.Proof.RoiHeight
public import proofs.«01_k».proof.Proof.RoiCentreX
public import proofs.«01_k».proof.Proof.RoiCentreY

@[expose] public section

noncomputable section

namespace Cert.Roi

open Idealize.ShloMosaic
open KernelIdeal (unpad1 unpad4 outCls outDel outRoi rows anch lo atX0 atX1 atI atC atRow1 atRow4 at3520 at14080 tileA tileB tileI tileC clsT delT roiT)

/-! ## The padding off -/

theorem unpad1_apply (f : Vec Ideal Cert.KernelIdeal.S112640 .f32) (b : Fin 8) (n : Fin 14040) (k : Fin 1) :
    unpad1 f (ix3 b n k) = f (ix1 ⟨b.val * 14080 + n.val, by omega⟩) := by
  pointwise [unpad1]

theorem unpad4_apply (f : Vec Ideal Cert.KernelIdeal.S450560 .f32) (b : Fin 8) (n : Fin 14040) (k : Fin 4) :
    unpad4 f (ix3 b n k) = f (ix1 ⟨(b.val * 14080 + n.val) * 4 + k.val, by omega⟩) := by
  pointwise [unpad4]
  refine congrArg f (congrArg ix1 (Fin.ext ?_))
  show b.val * 56320 + n.val * 4 + k.val = (b.val * 14080 + n.val) * 4 + k.val
  omega

/-! ## The launch's results at an anchor -/

/-- The row the kernel reads for anchor `n`, counted from the first row its tile copied. -/
def near (n : Fin 14040) : Nat := (Cert.KernelIdeal.lit0t n.val).toNat

theorem near_row (n : Fin 14040) : lo (n.val / 3520) + near n = (Ref.row n).val := (row_eq n.val n.isLt).1

theorem near_lt (n : Fin 14040) : near n < 5072 := KernelIdeal.lit0_lt ⟨n.val, by omega⟩

theorem rows_apply (j : Fin 14080) : (rows (F := Ideal)) (ix1 j) = Cert.KernelIdeal.lit0t j.val := by
  show Cert.KernelIdeal.lit0t (Cert.KernelIdeal.S14080.rowMajor (ix1 j)).val = _
  rw [Shape.rowMajor_val_one]; rfl

theorem anch_apply (j : Fin 56320) : (anch (F := Ideal)) (ix1 j) = FloatOps.ofBits (F := Ideal) .f32 (Cert.KernelIdeal.lit1t j.val) := by
  show FloatOps.ofBits (F := Ideal) .f32 (Cert.KernelIdeal.lit1t (Cert.KernelIdeal.S56320.rowMajor (ix1 j)).val) = _
  rw [Shape.rowMajor_val_one]; rfl

theorem tileI_apply (b : Fin 8) (n : Fin 14040) : tileI (F := Ideal) (4 * b.val + n.val / 3520) rows (at3520 (n.val % 3520)) = Cert.KernelIdeal.lit0t n.val := by
  have e : atI (3520 * ((4 * b.val + n.val / 3520) % 4) + (at3520 (n.val % 3520) 0).val) = ix1 (⟨n.val, by omega⟩ : Fin 14080) := by
    funext a
    match a with
    | 0 =>
      refine Fin.ext ?_
      show (3520 * ((4 * b.val + n.val / 3520) % 4) + n.val % 3520 % 3520) % 14080 = n.val
      omega
  show rows (atI _) = _
  rw [e, rows_apply]

theorem tileA_apply (X : Vec Ideal Cert.KernelIdeal.S8x20000x1 .f32) (b : Fin 8) (n : Fin 14040) :
    tileA (4 * b.val + n.val / 3520) X (atRow1 (near n)) = X (ix3 b (Ref.row n) 0) := by
  have h := near_row n
  have h1 := near_lt n
  have h2 := (Ref.row n).isLt
  show X (atX0 _ _) = _
  congr 1
  funext a
  match a with
  | 0 => exact Fin.ext (by show (4 * b.val + n.val / 3520) / 4 % 8 = b.val; omega)
  | 1 =>
    refine Fin.ext ?_
    show (lo ((4 * b.val + n.val / 3520) % 4) + near n % 5072) % 20000 = (Ref.row n).val
    rw [show (4 * b.val + n.val / 3520) % 4 = n.val / 3520 by omega]
    omega
  | 2 => rfl

theorem tileB_apply (X : Vec Ideal Cert.KernelIdeal.S8x20000x4 .f32) (b : Fin 8) (n : Fin 14040) (k : Fin 4) :
    tileB (4 * b.val + n.val / 3520) X (atRow4 (near n) k.val) = X (ix3 b (Ref.row n) k) := by
  have h := near_row n
  have h1 := near_lt n
  have h2 := (Ref.row n).isLt
  show X (atX1 _ _ _) = _
  congr 1
  funext a
  match a with
  | 0 => exact Fin.ext (by show (4 * b.val + n.val / 3520) / 4 % 8 = b.val; omega)
  | 1 =>
    refine Fin.ext ?_
    show (lo ((4 * b.val + n.val / 3520) % 4) + near n % 5072) % 20000 = (Ref.row n).val
    rw [show (4 * b.val + n.val / 3520) % 4 = n.val / 3520 by omega]
    omega
  | 2 => exact Fin.ext (by show k.val % 4 % 4 = k.val; omega)

theorem tileC_apply (b : Fin 8) (n : Fin 14040) (k : Fin 4) :
    tileC (F := Ideal) (4 * b.val + n.val / 3520) anch (at14080 (k.val * 3520 + n.val % 3520))
      = FloatOps.ofBits (F := Ideal) .f32 (Cert.KernelIdeal.lit1t (n.val / 3520 * 14080 + k.val * 3520 + n.val % 3520)) := by
  have e : atC (14080 * ((4 * b.val + n.val / 3520) % 4) + (at14080 (k.val * 3520 + n.val % 3520) 0).val)
      = ix1 (⟨n.val / 3520 * 14080 + k.val * 3520 + n.val % 3520, by omega⟩ : Fin 56320) := by
    funext a
    match a with
    | 0 =>
      refine Fin.ext ?_
      show (14080 * ((4 * b.val + n.val / 3520) % 4) + (k.val * 3520 + n.val % 3520) % 14080) % 56320 = n.val / 3520 * 14080 + k.val * 3520 + n.val % 3520
      omega
  show anch (atC _) = _
  rw [e, anch_apply]

/-! ## The scores and the regressions -/

theorem cls_apply (X : Vec Ideal Cert.KernelIdeal.S8x20000x1 .f32) (b : Fin 8) (n : Fin 14040) (k : Fin 1) :
    unpad1 (outCls X rows) (ix3 b n k) = X (ix3 b (Ref.row n) k) := by
  rw [unpad1_apply]
  show clsT (tileA ((b.val * 14080 + n.val) / 3520) X) (tileI ((b.val * 14080 + n.val) / 3520) rows) (at3520 ((b.val * 14080 + n.val) % 3520)) = _
  rw [show (b.val * 14080 + n.val) / 3520 = 4 * b.val + n.val / 3520 by omega, show (b.val * 14080 + n.val) % 3520 = n.val % 3520 by omega]
  show tileA _ X (atRow1 (tileI _ rows (at3520 (n.val % 3520))).toNat) = _
  rw [tileI_apply]
  obtain rfl : k = 0 := Subsingleton.elim _ _
  exact tileA_apply X b n

theorem del_apply (X : Vec Ideal Cert.KernelIdeal.S8x20000x4 .f32) (b : Fin 8) (n : Fin 14040) (k : Fin 4) :
    unpad4 (outDel X rows) (ix3 b n k) = X (ix3 b (Ref.row n) k) := by
  rw [unpad4_apply]
  show delT (tileB (((b.val * 14080 + n.val) * 4 + k.val) / 14080) X) (tileI (((b.val * 14080 + n.val) * 4 + k.val) / 14080) rows)
    (at14080 (((b.val * 14080 + n.val) * 4 + k.val) % 14080)) = _
  rw [show ((b.val * 14080 + n.val) * 4 + k.val) / 14080 = 4 * b.val + n.val / 3520 by omega,
    show ((b.val * 14080 + n.val) * 4 + k.val) % 14080 = 4 * (n.val % 3520) + k.val by omega]
  show tileB _ X (atRow4 (tileI _ rows (at3520 ((at14080 (4 * (n.val % 3520) + k.val) 0).val / 4))).toNat ((at14080 (4 * (n.val % 3520) + k.val) 0).val % 4)) = _
  rw [KernelIdeal.at14080_val _ (by omega), show (4 * (n.val % 3520) + k.val) / 4 = n.val % 3520 by omega,
    show (4 * (n.val % 3520) + k.val) % 4 = k.val by omega, tileI_apply]
  exact tileB_apply X b n k

/-! ## The boxes -/

/-- The two half extents: the product of half the anchor's extent and the exponential, associated either way. -/
theorem half_eq (w d : EReal) : KernelIdeal.half (F := Ideal) w d = Ref.half w d := by
  show Ideal.ofBits .f32 0x3F000000#32 * w * _ = Ideal.ofBits .f32 0x3F000000#32 * (w * _)
  rw [mul_assoc]
  rfl

theorem roi_apply (X : Vec Ideal Cert.KernelIdeal.S8x20000x4 .f32) (b : Fin 8) (n : Fin 14040) (k : Fin 4) :
    unpad4 (outRoi X rows anch) (ix3 b n k) = Ref.boxes (Ref.take4 (F := Ideal) X) (ix3 b n k) := by
  rw [unpad4_apply]
  show roiT (tileB (((b.val * 14080 + n.val) * 4 + k.val) / 14080) X) (tileI (((b.val * 14080 + n.val) * 4 + k.val) / 14080) rows)
    (tileC (((b.val * 14080 + n.val) * 4 + k.val) / 14080) anch) (at14080 (((b.val * 14080 + n.val) * 4 + k.val) % 14080)) = _
  rw [show ((b.val * 14080 + n.val) * 4 + k.val) / 14080 = 4 * b.val + n.val / 3520 by omega,
    show ((b.val * 14080 + n.val) * 4 + k.val) % 14080 = 4 * (n.val % 3520) + k.val by omega]
  unfold roiT
  simp only []
  rw [KernelIdeal.at14080_val _ (by omega), show (4 * (n.val % 3520) + k.val) / 4 = n.val % 3520 by omega,
    show (4 * (n.val % 3520) + k.val) % 4 = k.val by omega, tileI_apply]
  have c0 := tileC_apply b n 0
  have c1 := tileC_apply b n 1
  have c2 := tileC_apply b n 2
  have c3 := tileC_apply b n 3
  rw [show ((0 : Fin 4).val) * 3520 + n.val % 3520 = n.val % 3520 by show 0 * 3520 + _ = _; omega,
    show n.val / 3520 * 14080 + (0 : Fin 4).val * 3520 + n.val % 3520 = n.val / 3520 * 14080 + 0 + n.val % 3520 from rfl, width_eq n.val n.isLt, ← Ref.widths_apply] at c0
  rw [show ((1 : Fin 4).val) * 3520 + n.val % 3520 = 3520 + n.val % 3520 from rfl,
    show n.val / 3520 * 14080 + (1 : Fin 4).val * 3520 + n.val % 3520 = n.val / 3520 * 14080 + 3520 + n.val % 3520 from rfl, height_eq n.val n.isLt, ← Ref.heights_apply] at c1
  rw [show ((2 : Fin 4).val) * 3520 + n.val % 3520 = 7040 + n.val % 3520 from rfl,
    show n.val / 3520 * 14080 + (2 : Fin 4).val * 3520 + n.val % 3520 = n.val / 3520 * 14080 + 7040 + n.val % 3520 from rfl, centreX_eq n.val n.isLt, ← Ref.centreXs_apply] at c2
  rw [show ((3 : Fin 4).val) * 3520 + n.val % 3520 = 10560 + n.val % 3520 from rfl,
    show n.val / 3520 * 14080 + (3 : Fin 4).val * 3520 + n.val % 3520 = n.val / 3520 * 14080 + 10560 + n.val % 3520 from rfl, centreY_eq n.val n.isLt, ← Ref.centreYs_apply] at c3
  rw [c0, c1, c2, c3, show (Cert.KernelIdeal.lit0t n.val).toNat = near n from rfl]
  have b0 := tileB_apply X b n 0
  have b1 := tileB_apply X b n 1
  have b2 := tileB_apply X b n 2
  have b3 := tileB_apply X b n 3
  rw [show atRow4 (near n) 0 = atRow4 (near n) (0 : Fin 4).val from rfl, show atRow4 (near n) 1 = atRow4 (near n) (1 : Fin 4).val from rfl,
    show atRow4 (near n) 2 = atRow4 (near n) (2 : Fin 4).val from rfl, show atRow4 (near n) 3 = atRow4 (near n) (3 : Fin 4).val from rfl, b0, b1, b2, b3,
    Ref.boxes_apply]
  have t : ∀ j : Fin 4, X (ix3 b (Ref.row n) j) = Ref.take4 (F := Ideal) X (ix3 b n j) := fun j => (Ref.take4_apply (F := Ideal) X b n j).symm
  rw [t 0, t 1, t 2, t 3]
  match k with
  | 0 =>
    show KernelIdeal.clip (F := Ideal) _ = Ref.clip (Ref.left _ _)
    rw [Ref.left_apply, half_eq]; rfl
  | 1 =>
    show KernelIdeal.clip (F := Ideal) _ = Ref.clip (Ref.top _ _)
    rw [Ref.top_apply, half_eq]; rfl
  | 2 =>
    show KernelIdeal.clip (F := Ideal) _ = Ref.clip (Ref.right _ _)
    rw [Ref.right_apply, half_eq]; rfl
  | 3 =>
    show KernelIdeal.clip (F := Ideal) _ = Ref.clip (Ref.bottom _ _)
    rw [Ref.bottom_apply, half_eq]; rfl

/-! ## The three results, whole -/

theorem cls_eq (X : Vec Ideal Cert.KernelIdeal.S8x20000x1 .f32) : unpad1 (outCls X rows) = Ref.take1 (F := Ideal) X := by
  funext i
  rw [eq_ix3 i]
  exact (cls_apply X _ _ _).trans (Ref.take1_apply (F := Ideal) X _ _ _).symm

theorem del_eq (X : Vec Ideal Cert.KernelIdeal.S8x20000x4 .f32) : unpad4 (outDel X rows) = Ref.take4 (F := Ideal) X := by
  funext i
  rw [eq_ix3 i]
  exact (del_apply X _ _ _).trans (Ref.take4_apply (F := Ideal) X _ _ _).symm

theorem roi_eq (X : Vec Ideal Cert.KernelIdeal.S8x20000x4 .f32) : unpad4 (outRoi X rows anch) = Ref.boxes (Ref.take4 (F := Ideal) X) := by
  funext i
  rw [eq_ix3 i]
  exact roi_apply X _ _ _

end Cert.Roi

end
-- ==== Proof.lean ====
/-
  The proof of `Cert.Claim`: the kernel and its idealization run to the end, leaving their arguments as they were and
  every counter at zero; the reference likewise; and over the extended reals the kernel's three results are the
  reference's three. The kernel's run is `Cert.Roi.Kernel.run_main` (KernelMain.lean), stated with what the results
  hold; that the reference's hold the same is RoiEqual.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KernelMain
public import proofs.«01_k».proof.Proof.KernelIdealMain
public import proofs.«01_k».proof.Proof.RoiEqual
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ =>
  (θ_run Cert.Kernel.defs _ _).mono (fun _ h => ⟨fun c => ⟨(h.1 c).1, (h.1 c).2.1⟩, h.2⟩) (Cert.Roi.Kernel.run_main (F := Bits) m ρ)

theorem frame_ideal : Cert.quiescent_KernelIdeal := fun m ρ _ =>
  (θ_run Cert.KernelIdeal.defs _ _).mono (fun _ h => ⟨fun c => ⟨(h.1 c).1, (h.1 c).2.1⟩, h.2⟩) (Cert.Roi.KernelIdeal.run_main (F := Ideal) m ρ)

/-- The reference declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem values : Cert.algebraic_KernelIdeal_ReferenceIdeal := by
  intro m ρ m' ρ' _ hagree
  refine ⟨fun c => (Cert.Roi.KernelIdeal.unpad1 (Cert.Roi.KernelIdeal.res0 m c) : Vec Ideal Cert.KernelIdeal.S8x14040x1 .f32),
    fun c => (Cert.Roi.KernelIdeal.unpad4 (Cert.Roi.KernelIdeal.res1 m c) : Vec Ideal Cert.KernelIdeal.S8x14040x4 .f32),
    fun c => (Cert.Roi.KernelIdeal.unpad4 (Cert.Roi.KernelIdeal.res2 m c) : Vec Ideal Cert.KernelIdeal.S8x14040x4 .f32),
    (θ_run Cert.KernelIdeal.defs _ _).mono (fun _ h c => ⟨(h.1 c).2.2.1, (h.1 c).2.2.2.1, (h.1 c).2.2.2.2, (h.1 c).1, (h.1 c).2.1⟩)
      (Cert.Roi.KernelIdeal.run_main (F := Ideal) m ρ), ?_⟩
  refine (θ_run Cert.ReferenceIdeal.defs _ _).mono
    (fun _ h c => ⟨(h c).1.trans ?_, (h c).2.1.trans ?_, (h c).2.2.1.trans ?_, (h c).2.2.2.1, (h c).2.2.2.2⟩)
    (Cert.ReferenceIdeal.Value.run (F := Ideal) m' ρ')
  · rw [(hagree c).1]
    exact (Cert.Roi.cls_eq _).symm
  · rw [(hagree c).2]
    exact (Cert.Roi.del_eq _).symm
  · rw [Cert.Roi.Ref.res_eq, (hagree c).2]
    exact (Cert.Roi.roi_eq _).symm

theorem claim : Cert.Claim := ⟨Cert.Kernel.Gen.facts, Cert.KernelIdeal.Gen.facts, Cert.ReferenceIdeal.Gen.facts,
  frame_kernel, frame_ideal, frame_reference, trivial, values⟩

end Cert.Proof

end
